-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3072 : Shape := ⟨3, ![2, 128, 3072]⟩
abbrev S3072 : Shape := ⟨1, ![3072]⟩
abbrev S_ : Shape := ⟨0, ![]⟩
abbrev S1536x12288 : Shape := ⟨2, ![1536, 12288]⟩
abbrev S192x12288 : Shape := ⟨2, ![192, 12288]⟩
abbrev S3072x32 : Shape := ⟨2, ![3072, 32]⟩
abbrev S32x12288 : Shape := ⟨2, ![32, 12288]⟩
abbrev S12288 : Shape := ⟨1, ![12288]⟩
abbrev S1 : Shape := ⟨1, ![1]⟩
abbrev S256x3072 : Shape := ⟨2, ![256, 3072]⟩
abbrev S1x3072 : Shape := ⟨2, ![1, 3072]⟩
abbrev S1x12288 : Shape := ⟨2, ![1, 12288]⟩
abbrev S256x12288 : Shape := ⟨2, ![256, 12288]⟩
abbrev S256x1536 : Shape := ⟨2, ![256, 1536]⟩
abbrev S256x192 : Shape := ⟨2, ![256, 192]⟩
abbrev S1536x512 : Shape := ⟨2, ![1536, 512]⟩
abbrev S192x512 : Shape := ⟨2, ![192, 512]⟩
abbrev S32x512 : Shape := ⟨2, ![32, 512]⟩
abbrev S1x512 : Shape := ⟨2, ![1, 512]⟩
abbrev S256x512 : Shape := ⟨2, ![256, 512]⟩
abbrev S256x32 : Shape := ⟨2, ![256, 32]⟩
abbrev S2x256x128 : Shape := ⟨3, ![2, 256, 128]⟩
abbrev S16x256 : Shape := ⟨2, ![16, 256]⟩
abbrev S192x256 : Shape := ⟨2, ![192, 256]⟩
abbrev S256x256 : Shape := ⟨2, ![256, 256]⟩
abbrev S1x256 : Shape := ⟨2, ![1, 256]⟩
abbrev S256x128 : Shape := ⟨2, ![256, 128]⟩
abbrev S1x256x128 : Shape := ⟨3, ![1, 256, 128]⟩
abbrev S16x128 : Shape := ⟨2, ![16, 128]⟩
abbrev S32x8x256 : Shape := ⟨3, ![32, 8, 256]⟩
abbrev S32x1x256 : Shape := ⟨3, ![32, 1, 256]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S128x512 : Shape := ⟨2, ![128, 512]⟩
abbrev S128x1x512 : Shape := ⟨3, ![128, 1, 512]⟩
abbrev S128x2x512 : Shape := ⟨3, ![128, 2, 512]⟩
abbrev S16x512 : Shape := ⟨2, ![16, 512]⟩

abbrev nBuf : Space → Nat
  | .hbm => 17
  | .vmem => 22
  | .smem => 2
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S_, .f32⟩
  | .hbm, ⟨3, _⟩ => ⟨S1536x12288, .i8⟩
  | .hbm, ⟨4, _⟩ => ⟨S192x12288, .fp8e4m3⟩
  | .hbm, ⟨5, _⟩ => ⟨S_, .f32⟩
  | .hbm, ⟨6, _⟩ => ⟨S3072x32, .bf16⟩
  | .hbm, ⟨7, _⟩ => ⟨S32x12288, .bf16⟩
  | .hbm, ⟨8, _⟩ => ⟨S12288, .f32⟩
  | .hbm, ⟨9, _⟩ => ⟨S1, .f32⟩
  | .hbm, ⟨10, _⟩ => ⟨S1, .f32⟩
  | .hbm, ⟨11, _⟩ => ⟨S256x3072, .bf16⟩
  | .hbm, ⟨12, _⟩ => ⟨S1x3072, .f32⟩
  | .hbm, ⟨13, _⟩ => ⟨S1x12288, .f32⟩
  | .hbm, ⟨14, _⟩ => ⟨S256x12288, .bf16⟩
  | .hbm, ⟨15, _⟩ => ⟨S256x1536, .i8⟩
  | .hbm, ⟨16, _⟩ => ⟨S256x192, .fp8e4m3⟩
  | .local _ .vmem, ⟨0, _⟩ => ⟨S256x3072, .bf16⟩
  | .local _ .vmem, ⟨1, _⟩ => ⟨S1x3072, .f32⟩
  | .local _ .vmem, ⟨2, _⟩ => ⟨S3072x32, .bf16⟩
  | .local _ .vmem, ⟨3, _⟩ => ⟨S1536x512, .i8⟩
  | .local _ .vmem, ⟨4, _⟩ => ⟨S1536x512, .i8⟩
  | .local _ .vmem, ⟨5, _⟩ => ⟨S192x512, .fp8e4m3⟩
  | .local _ .vmem, ⟨6, _⟩ => ⟨S192x512, .fp8e4m3⟩
  | .local _ .vmem, ⟨7, _⟩ => ⟨S32x512, .bf16⟩
  | .local _ .vmem, ⟨8, _⟩ => ⟨S32x512, .bf16⟩
  | .local _ .vmem, ⟨9, _⟩ => ⟨S1x512, .f32⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S256x1536, .i8⟩
  | .local _ .vmem, ⟨14, _⟩ => ⟨S256x192, .fp8e4m3⟩
  | .local _ .vmem, ⟨15, _⟩ => ⟨S256x3072, .bf16⟩
  | .local _ .vmem, ⟨16, _⟩ => ⟨S256x32, .bf16⟩
  | .local _ .vmem, ⟨17, _⟩ => ⟨S2x256x128, .f32⟩
  | .local _ .vmem, ⟨18, _⟩ => ⟨S16x256, .f32⟩
  | .local _ .vmem, ⟨19, _⟩ => ⟨S16x256, .f32⟩
  | .local _ .vmem, ⟨20, _⟩ => ⟨S192x256, .f32⟩
  | .local _ .vmem, ⟨21, _⟩ => ⟨S192x512, .f32⟩
  | .local _ .smem, ⟨0, _⟩ => ⟨S1, .f32⟩
  | .local _ .smem, ⟨1, _⟩ => ⟨S1, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x128x3072 : Shape := ⟨3, ![2, 128, 3072]⟩
abbrev S3072 : Shape := ⟨1, ![3072]⟩
abbrev S_ : Shape := ⟨0, ![]⟩
abbrev S1536x12288 : Shape := ⟨2, ![1536, 12288]⟩
abbrev S192x12288 : Shape := ⟨2, ![192, 12288]⟩
abbrev S3072x32 : Shape := ⟨2, ![3072, 32]⟩
abbrev S32x12288 : Shape := ⟨2, ![32, 12288]⟩
abbrev S12288 : Shape := ⟨1, ![12288]⟩
abbrev S256x3072 : Shape := ⟨2, ![256, 3072]⟩
abbrev S1x3072 : Shape := ⟨2, ![1, 3072]⟩
abbrev S1x1 : Shape := ⟨2, ![1, 1]⟩
abbrev S1x12288 : Shape := ⟨2, ![1, 12288]⟩
abbrev S256x12288 : Shape := ⟨2, ![256, 12288]⟩
abbrev S256x1536 : Shape := ⟨2, ![256, 1536]⟩
abbrev S256x192 : Shape := ⟨2, ![256, 192]⟩
abbrev S256x192x16 : Shape := ⟨3, ![256, 192, 16]⟩
abbrev S256x192x1 : Shape := ⟨3, ![256, 192, 1]⟩
abbrev S256x1536x2 : Shape := ⟨3, ![256, 1536, 2]⟩
abbrev S256x1536x1 : Shape := ⟨3, ![256, 1536, 1]⟩
abbrev S256x192x8 : Shape := ⟨3, ![256, 192, 8]⟩
abbrev S192x1x12288 : Shape := ⟨3, ![192, 1, 12288]⟩
abbrev S192x8x12288 : Shape := ⟨3, ![192, 8, 12288]⟩
abbrev S1536x1x12288 : Shape := ⟨3, ![1536, 1, 12288]⟩
abbrev S1536x2x12288 : Shape := ⟨3, ![1536, 2, 12288]⟩
abbrev S3072x12288 : Shape := ⟨2, ![3072, 12288]⟩
abbrev S256x32 : Shape := ⟨2, ![256, 32]⟩

abbrev nBuf : Space → Nat
  | .hbm => 17
  | .vmem => 12
  | .smem => 0
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S_, .f32⟩
  | .hbm, ⟨3, _⟩ => ⟨S1536x12288, .i8⟩
  | .hbm, ⟨4, _⟩ => ⟨S192x12288, .fp8e4m3⟩
  | .hbm, ⟨5, _⟩ => ⟨S_, .f32⟩
  | .hbm, ⟨6, _⟩ => ⟨S3072x32, .bf16⟩
  | .hbm, ⟨7, _⟩ => ⟨S32x12288, .bf16⟩
  | .hbm, ⟨8, _⟩ => ⟨S12288, .f32⟩
  | .hbm, ⟨9, _⟩ => ⟨S256x3072, .bf16⟩
  | .hbm, ⟨10, _⟩ => ⟨S1x3072, .f32⟩
  | .hbm, ⟨11, _⟩ => ⟨S1x1, .f32⟩
  | .hbm, ⟨12, _⟩ => ⟨S1x1, .f32⟩
  | .hbm, ⟨13, _⟩ => ⟨S1x12288, .f32⟩
  | .hbm, ⟨14, _⟩ => ⟨S256x12288, .bf16⟩
  | .hbm, ⟨15, _⟩ => ⟨S256x1536, .i8⟩
  | .hbm, ⟨16, _⟩ => ⟨S256x192, .fp8e4m3⟩
  | .local _ .vmem, ⟨0, _⟩ => ⟨S256x3072, .bf16⟩
  | .local _ .vmem, ⟨1, _⟩ => ⟨S1x3072, .f32⟩
  | .local _ .vmem, ⟨2, _⟩ => ⟨S1x1, .f32⟩
  | .local _ .vmem, ⟨3, _⟩ => ⟨S1536x12288, .i8⟩
  | .local _ .vmem, ⟨4, _⟩ => ⟨S192x12288, .fp8e4m3⟩
  | .local _ .vmem, ⟨5, _⟩ => ⟨S1x1, .f32⟩
  | .local _ .vmem, ⟨6, _⟩ => ⟨S3072x32, .bf16⟩
  | .local _ .vmem, ⟨7, _⟩ => ⟨S32x12288, .bf16⟩
  | .local _ .vmem, ⟨8, _⟩ => ⟨S1x12288, .f32⟩
  | .local _ .vmem, ⟨9, _⟩ => ⟨S256x12288, .bf16⟩
  | .local _ .vmem, ⟨10, _⟩ => ⟨S256x1536, .i8⟩
  | .local _ .vmem, ⟨11, _⟩ => ⟨S256x192, .fp8e4m3⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x12288 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x12288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x12288 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Run.Shared.lean ====
/- What the runs of the kernel body share: when its one condition holds, at which points each output is left alone, and
    the staging and scratch buffers. -/
module

public import proofs.«01_k».proof.Proof.Gen.KernelIdeal.Frame
public import proofs.«01_k».proof.Proof.Gen.KernelIdeal.Skeleton
public import Idealize.ShloMosaic.Lib.Pipeline.TableIdle

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether the buffer of output 10 holds nothing the body stored since the last write-back, before each point. -/
def freshTab0_10 : ℕ → Bool
  | 0 => true
  | n + 1 => (0x800000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- The first point stores into output 10. -/
theorem liveAt0_10_A : ∀ t : Fin cfg0.N, cond0_0 (grid0.coords t) → cfg0.idle 10 (grid0.coords t) = false := by decide +kernel
/-- Every later point leaves output 10 as it finds it. -/
theorem idleAt0_10_B : ∀ t : Fin cfg0.N, ¬cond0_0 (grid0.coords t) → cfg0.idle 10 (grid0.coords t) = true := by decide +kernel
/-- After the first point the buffer of output 10 holds something the body stored. -/
theorem notFresh0_10_B : ∀ t : Fin cfg0.N, ¬cond0_0 (grid0.coords t) → cfg0.fresh 10 t.val = false := by
  intro t; rw [fresh0_10_eq]; revert t; decide +kernel

/-- Whether the buffer of output 11 holds nothing the body stored since the last write-back, before each point. -/
def freshTab0_11 : ℕ → Bool
  | 0 => true
  | n + 1 => (0x800000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- The first point stores into output 11. -/
theorem liveAt0_11_A : ∀ t : Fin cfg0.N, cond0_0 (grid0.coords t) → cfg0.idle 11 (grid0.coords t) = false := by decide +kernel
/-- Every later point leaves output 11 as it finds it. -/
theorem idleAt0_11_B : ∀ t : Fin cfg0.N, ¬cond0_0 (grid0.coords t) → cfg0.idle 11 (grid0.coords t) = true := by decide +kernel
/-- After the first point the buffer of output 11 holds something the body stored. -/
theorem notFresh0_11_B : ∀ t : Fin cfg0.N, ¬cond0_0 (grid0.coords t) → cfg0.fresh 11 t.val = false := by
  intro t; rw [fresh0_11_eq]; revert t; decide +kernel

/-! ## The kernel body on any staging memrefs: a subtype the run finds -/

/-- One staging buffer of output window 9, through which its contents are stated (`View.read_writes_of_cover`: the
    choice does not matter). -/
abbrev VO0_9 : View sig .tc .vmem S256x512 .bf16 := (Memref.whole cc0_stg9_0 : Memref sig .tc .vmem S256x512 .bf16).view
/-- One staging buffer of output window 10, through which its contents are stated (`View.read_writes_of_cover`: the
    choice does not matter). -/
abbrev VO0_10 : View sig .tc .vmem S256x1536 .i8 := (Memref.whole cc0_stg10_0 : Memref sig .tc .vmem S256x1536 .i8).view
/-- One staging buffer of output window 11, through which its contents are stated (`View.read_writes_of_cover`: the
    choice does not matter). -/
abbrev VO0_11 : View sig .tc .vmem S256x192 .fp8e4m3 := (Memref.whole cc0_stg11_0 : Memref sig .tc .vmem S256x192 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1536 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x192 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3072 .bf16 := Memref.whole cc0_scratch0
abbrev scM0_1 : Memref sig .tc .vmem S256x32 .bf16 := Memref.whole cc0_scratch1
abbrev scM0_2 : Memref sig .tc .vmem S2x256x128 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S192x256 .f32 := Memref.whole cc0_scratch5
abbrev scM0_6 : Memref sig .tc .vmem S192x512 .f32 := Memref.whole cc0_scratch6
/-- The scratch `arg13` the kernel carries between points, as a view: what it holds is stated through it. -/
abbrev VS0_0 : View sig .tc .vmem S256x3072 .bf16 := scM0_0.view
/-- The scratch `arg14` the kernel carries between points, as a view: what it holds is stated through it. -/
abbrev VS0_1 : View sig .tc .vmem S256x32 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Run

end
-- ==== Proof.Run.RunA.lean ====
/- The body run at the first point. -/
module

public import proofs.«01_k».proof.Proof.Run.Shared

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10032000 in set_option sl_exec.squeezeSlice true in
/-- The first point: what its stores leave in each output's staging buffer and in each scratch buffer, as pieces (the last
    store first), with the proof that the body, handed the input buffers at `x0` … `x8` and the rest at anything, runs to
    the continuation holding the inputs as they were and those pieces written. -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole) (hc0 : cond0_0 i)
    (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32) :
    Σ' (L9 : List (View.Piece (Elt F) S256x512 .bf16)), Σ' (L10 : List (View.Piece (Elt F) S256x1536 .i8)), Σ' (L11 : List (View.Piece (Elt F) S256x192 .fp8e4m3)), Σ' (LS0 : List (View.Piece (Elt F) S256x3072 .bf16)), Σ' (LS1 : List (View.Piece (Elt F) S256x32 .bf16)), Σ' (LT2 : List (View.Piece (Elt F) S2x256x128 .f32)), Σ' (LT3 : List (View.Piece (Elt F) S16x256 .f32)), Σ' (LT4 : List (View.Piece (Elt F) S16x256 .f32)), Σ' (LT5 : List (View.Piece (Elt F) S192x256 .f32)), { LT6 : List (View.Piece (Elt F) S192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4) ∗ (∃ f, arg18.view.loc (c : Thread nD τ) ↦[arg18.view.set]{fullShare} arg18.view.writes (Elt F) f LT5) ∗ (∃ f, arg19.view.loc (c : Thread nD τ) ↦[arg19.view.set]{fullShare} arg19.view.writes (Elt F) f LT6)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_svdquant_eq_skeleton]; unfold cc0_svdquant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Run

end
-- ==== Proof.Run.RunB.lean ====
/- The body run at a later point. -/
module

public import proofs.«01_k».proof.Proof.Run.Shared

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1292000 in
/-- A later point: what its store leaves in the staging buffer of output 9, as pieces, with the proof that the body, handed
    the input buffers at `x0` … `x8`, outputs 10 and 11 at `xo10`, `xo11` and the two carried scratch buffers at `xs0`, `xs1`,
    runs to the continuation holding all of those as they were and the pieces written. -/
noncomputable def kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole) (hc0 : ¬cond0_0 i)
    (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32) (xo10 : Vec F S256x1536 .i8) (xo11 : Vec F S256x192 .fp8e4m3) (xs0 : Vec F S256x3072 .bf16) (xs1 : Vec F S256x32 .bf16) :
    { L9 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ owns (c : Thread nD τ) arg12 fullShare xo11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_svdquant_eq_skeleton]; unfold cc0_svdquant_skel
    simp only [k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg13.read_unread _
      iexact HS0
    isplitl [HS1]
    · iexists _; isplitr; · ipureintro; exact harg14.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Run

end
-- ==== Proof.Run.Outs.lean ====
/- What every point leaves in the outputs and in the scratch buffers carried between points. -/
module

public import proofs.«01_k».proof.Proof.Run.RunA
public import proofs.«01_k».proof.Proof.Run.RunB

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000

section Outs

variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32)
variable (xo10 : Vec F S256x1536 .i8) (xo11 : Vec F S256x192 .fp8e4m3) (xs0 : Vec F S256x3072 .bf16) (xs1 : Vec F S256x32 .bf16)

/-- The stores of the first point into output 9 cover it. -/
theorem cover0_A_9 (hc0 : cond0_0 i) (y : S256x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1 S256x512.size (by sl_kernel_rfl) y

/-- What the first point leaves in output 9. -/
def out0_A_9 (hc0 : cond0_0 i) : Vec F S256x512 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1)

/-- The stores of the first point into output 10 cover it. -/
theorem cover0_A_10 (hc0 : cond0_0 i) (y : S256x1536.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1 S256x128.size (by sl_kernel_rfl) y

/-- What the first point leaves in output 10. -/
def out0_A_10 (hc0 : cond0_0 i) : Vec F S256x1536 .i8 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1)

/-- The stores of the first point into output 11 cover it. -/
theorem cover0_A_11 (hc0 : cond0_0 i) (y : S256x192.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1 S256x192.size (by sl_kernel_rfl) y

/-- What the first point leaves in output 11. -/
def out0_A_11 (hc0 : cond0_0 i) : Vec F S256x192 .fp8e4m3 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1)

/-- The stores of the first point into the first carried scratch cover it. -/
theorem scover0_A_0 (hc0 : cond0_0 i) (y : S256x3072.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1 S256x256.size (by sl_kernel_rfl) y

/-- What the first point leaves in the first carried scratch. -/
def sout0_A_0 (hc0 : cond0_0 i) : Vec F S256x3072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1)

/-- The stores of the first point into the second carried scratch cover it. -/
theorem scover0_A_1 (hc0 : cond0_0 i) (y : S256x32.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1 S256x32.size (by sl_kernel_rfl) y

/-- What the first point leaves in the second carried scratch. -/
def sout0_A_1 (hc0 : cond0_0 i) : Vec F S256x32 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1)

/-- The stores of a later point into output 9 cover it. -/
theorem cover0_B_9 (hc1 : ¬cond0_0 i) (y : S256x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1 S256x512.size (by sl_kernel_rfl) y

/-- What a later point leaves in output 9. -/
def out0_B_9 (hc1 : ¬cond0_0 i) : Vec F S256x512 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1)

end Outs

/-- The grid's first point. -/
abbrev p0 : Fin cfg0.N := ⟨0, lt_of_lt_of_eq (by omega : 0 < 24) N_0.symm⟩

theorem hc_p0 : cond0_0 (grid0.coords p0) := (hcond0_0 p0).mpr rfl

/-- What the first point leaves in the three outputs and in the two carried scratch buffers. -/
def first (c : Dev nD) : Vec F S256x512 .bf16 × Vec F S256x1536 .i8 × Vec F S256x192 .fp8e4m3 × Vec F S256x3072 .bf16 × Vec F S256x32 .bf16 :=
  (out0_A_9 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      out0_A_10 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      out0_A_11 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      sout0_A_0 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      sout0_A_1 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0)

/-- What point `t` leaves in the three outputs and in the two carried scratch buffers: a later point computes its own
    block of output 9 from what the first point left in the scratch, and the other four stay. -/
def outsAt0 (c : Dev nD) (t : Fin cfg0.N) : Vec F S256x512 .bf16 × Vec F S256x1536 .i8 × Vec F S256x192 .fp8e4m3 × Vec F S256x3072 .bf16 × Vec F S256x32 .bf16 :=
  if h : cond0_0 (grid0.coords t) then first m c
  else (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (first m c).2.1 (first m c).2.2.1 (first m c).2.2.2.1 (first m c).2.2.2.2 h,
    (first m c).2)

theorem first_eq (c : Dev nD) (t : Fin cfg0.N) (h : cond0_0 (grid0.coords t)) : first m c = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h) := by
  have ht : t = p0 := by
    have hN : t.val < 24 := lt_of_lt_of_eq t.isLt (show cfg0.N = 24 from N_0)
    have := (hcond0_0 t).mp h
    exact Fin.ext (show t.val = 0 by omega)
  subst ht
  delta first
  exact Eq.refl _

theorem outsAt0_A (c : Dev nD) (t : Fin cfg0.N) (h : cond0_0 (grid0.coords t)) : outsAt0 m c t = first m c := by
  delta outsAt0; exact dif_pos h

theorem outsAt0_B (c : Dev nD) (t : Fin cfg0.N) (h : ¬cond0_0 (grid0.coords t)) : outsAt0 m c t =
    (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (first m c).2.1 (first m c).2.2.1 (first m c).2.2.2.1 (first m c).2.2.2.2 h,
    (first m c).2) := by
  delta outsAt0; exact dif_neg h

theorem outsAt0_snd (c : Dev nD) (t : Fin cfg0.N) : (outsAt0 m c t).2 = (first m c).2 := by
  by_cases h : cond0_0 (grid0.coords t)
  · rw [outsAt0_A m c t h]
  · rw [outsAt0_B m c t h]

end Cert.KernelIdeal.Run

end
-- ==== Proof.Run.Frame.lean ====
/- The frame of the kernel: the invariant between points, the body at every point, the run of the program. -/
module

public import proofs.«01_k».proof.Proof.Run.Outs
public import Idealize.ShloMosaic.Lib.Claim

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

/-- The region's invariant before position `n`: before the first point every scratch holds anything; afterwards the two
    carried scratch buffers hold what the first point left in them. -/
def PhiS (c : Dev nD) : ℕ → sProp 𝕄
  | 0 => Pipeline.ΦA spec0 c
  | _ + 1 => iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_succ (c : Dev nD) (n : ℕ) : PhiS m c (n + 1) = iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_zero (c : Dev nD) (n : ℕ) (hz : n = 0) : PhiS m c n = Pipeline.ΦA spec0 c := by
  subst hz; rfl

theorem PhiS_pos (c : Dev nD) (n : ℕ) (hz : n ≠ 0) : PhiS m c n = iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2.1
  Φ t := PhiS m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

/-- What the body leaves, window by window . -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 10 keeps its contents through the points that leave it alone. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ _ _
  rw [after0_10, after0_10, outsAt0_snd, outsAt0_snd]

/-- At a later point output 10 holds what the first point left. -/
theorem before0_10_B (c : Dev nD) (t : Fin cfg0.N) (h : ¬cond0_0 (grid0.coords t)) (d) :
    (dats m 0 c).before 10 t d = (first m c).2.1 := by
  rw [Dat.before_out_traj _ 10 rfl (fun _ _ => rfl) (hcarry0_10 m c) t.val t rfl d,
    if_neg (by rw [notFresh0_10_B t h]; exact Bool.false_ne_true), after0_10, outsAt0_snd]

/-- A later point leaves output 10 at what the first point left in it, written back there or not. -/
theorem leaves0_10_B (c : Dev nD) (t : Fin cfg0.N) (h : ¬cond0_0 (grid0.coords t)) :
    owns (c : Thread nD τ) (ms0_10 t) fullShare ((first m c).2.1) ⊢ (dats m 0 c).leavesExact 10 t := by
  cases hf : (cfg0.win 10).flush t with
  | false =>
    rw [Dat.leavesExact_idle _ 10 t (idleAt0_10_B t h) hf]
    simp only [before0_10_B m c t h]
    iintro H
    iexists (first m c).2.1; iexact H
  | true =>
    rw [show (dats m 0 c).leavesExact 10 t = owns (c : Thread nD τ) (ms0_10 t) fullShare ((dats m 0 c).after 10 t) from by
      unfold Dat.leavesExact; rw [idleAt0_10_B t h, hf], after0_10, outsAt0_snd]

/-- Output 11 keeps its contents through the points that leave it alone. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ _ _
  rw [after0_11, after0_11, outsAt0_snd, outsAt0_snd]

/-- At a later point output 11 holds what the first point left. -/
theorem before0_11_B (c : Dev nD) (t : Fin cfg0.N) (h : ¬cond0_0 (grid0.coords t)) (d) :
    (dats m 0 c).before 11 t d = (first m c).2.2.1 := by
  rw [Dat.before_out_traj _ 11 rfl (fun _ _ => rfl) (hcarry0_11 m c) t.val t rfl d,
    if_neg (by rw [notFresh0_11_B t h]; exact Bool.false_ne_true), after0_11, outsAt0_snd]

/-- A later point leaves output 11 at what the first point left in it, written back there or not. -/
theorem leaves0_11_B (c : Dev nD) (t : Fin cfg0.N) (h : ¬cond0_0 (grid0.coords t)) :
    owns (c : Thread nD τ) (ms0_11 t) fullShare ((first m c).2.2.1) ⊢ (dats m 0 c).leavesExact 11 t := by
  cases hf : (cfg0.win 11).flush t with
  | false =>
    rw [Dat.leavesExact_idle _ 11 t (idleAt0_11_B t h) hf]
    simp only [before0_11_B m c t h]
    iintro H
    iexists (first m c).2.2.1; iexact H
  | true =>
    rw [show (dats m 0 c).leavesExact 11 t = owns (c : Thread nD τ) (ms0_11 t) fullShare ((dats m 0 c).after 11 t) from by
      unfold Dat.leavesExact; rw [idleAt0_11_B t h, hf], after0_11, outsAt0_snd]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 12800000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  have hN : t.val < 24 := lt_of_lt_of_eq t.isLt (show cfg0.N = 24 from N_0)
  by_cases h0 : cond0_0 (grid0.coords t)
  · have hz : t.val = 0 := by have := (hcond0_0 t).mp h0; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_A t h0], after0_10]
      rw [show (dats m 0 c).leavesExact 11 t = owns (c : Thread nD τ) (ms0_11 t) fullShare ((dats m 0 c).after 11 t) from by
      unfold Dat.leavesExact; rw [liveAt0_11_A t h0], after0_11]
      · rw [PhiS_castSucc m c t, PhiS_zero m c _ hz, PhiA0_eq]
        rw [outsAt0_A m c t h0, first_eq m c t h0]
        unfold out0_A_9 out0_A_10 out0_A_11 sout0_A_0 sout0_A_1; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t)).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, ⟨%e9, H9⟩, ⟨%e10, H10⟩, ⟨%e11, H11⟩, ⟨%es0, HS0⟩, ⟨%es1, HS1⟩, ⟨%fT2, HS2⟩, ⟨%fT3, HS3⟩, ⟨%fT4, HS4⟩, ⟨%fT5, HS5⟩, ⟨%fT6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            iexists _; unfold owns; iexists _; isplitr
            swap; · iexact HS6
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
  · have hz : t.val ≠ 0 := fun hz => h0 ((hcond0_0 t).mpr (by rw [hz]))
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      · rw [PhiS_castSucc m c t, PhiS_pos m c _ hz]
        rw [outsAt0_B m c t h0]
        simp only [before0_10_B m c t h0, before0_11_B m c t h0]
        unfold out0_B_9; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, ⟨%e9, H9⟩, H10, H11, HS0, HS1, HS2, HS3, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _)
        isplitl [H10]
        · iapply (leaves0_10_B m c t h0); iexact H10
        iapply (leaves0_11_B m c t h0); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Run

end
-- ==== Proof.RunKernel.Shared.lean ====
/- What the runs of the kernel body share: when its one condition holds, at which points each output is left alone, and
    the staging and scratch buffers. -/
module

public import proofs.«01_k».proof.Proof.Gen.Kernel.Frame
public import proofs.«01_k».proof.Proof.Gen.Kernel.Skeleton
public import Idealize.ShloMosaic.Lib.Pipeline.TableIdle

@[expose] public section

-- a rectangle of long axes is looked at once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether the buffer of output 10 holds nothing the body stored since the last write-back, before each point. -/
def freshTab0_10 : ℕ → Bool
  | 0 => true
  | n + 1 => (0x800000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- The first point stores into output 10. -/
theorem liveAt0_10_A : ∀ t : Fin cfg0.N, cond0_0 (grid0.coords t) → cfg0.idle 10 (grid0.coords t) = false := by decide +kernel
/-- Every later point leaves output 10 as it finds it. -/
theorem idleAt0_10_B : ∀ t : Fin cfg0.N, ¬cond0_0 (grid0.coords t) → cfg0.idle 10 (grid0.coords t) = true := by decide +kernel
/-- After the first point the buffer of output 10 holds something the body stored. -/
theorem notFresh0_10_B : ∀ t : Fin cfg0.N, ¬cond0_0 (grid0.coords t) → cfg0.fresh 10 t.val = false := by
  intro t; rw [fresh0_10_eq]; revert t; decide +kernel

/-- Whether the buffer of output 11 holds nothing the body stored since the last write-back, before each point. -/
def freshTab0_11 : ℕ → Bool
  | 0 => true
  | n + 1 => (0x800000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- The first point stores into output 11. -/
theorem liveAt0_11_A : ∀ t : Fin cfg0.N, cond0_0 (grid0.coords t) → cfg0.idle 11 (grid0.coords t) = false := by decide +kernel
/-- Every later point leaves output 11 as it finds it. -/
theorem idleAt0_11_B : ∀ t : Fin cfg0.N, ¬cond0_0 (grid0.coords t) → cfg0.idle 11 (grid0.coords t) = true := by decide +kernel
/-- After the first point the buffer of output 11 holds something the body stored. -/
theorem notFresh0_11_B : ∀ t : Fin cfg0.N, ¬cond0_0 (grid0.coords t) → cfg0.fresh 11 t.val = false := by
  intro t; rw [fresh0_11_eq]; revert t; decide +kernel

/-! ## The kernel body on any staging memrefs: a subtype the run finds -/

/-- One staging buffer of output window 9, through which its contents are stated (`View.read_writes_of_cover`: the
    choice does not matter). -/
abbrev VO0_9 : View sig .tc .vmem S256x512 .bf16 := (Memref.whole cc0_stg9_0 : Memref sig .tc .vmem S256x512 .bf16).view
/-- One staging buffer of output window 10, through which its contents are stated (`View.read_writes_of_cover`: the
    choice does not matter). -/
abbrev VO0_10 : View sig .tc .vmem S256x1536 .i8 := (Memref.whole cc0_stg10_0 : Memref sig .tc .vmem S256x1536 .i8).view
/-- One staging buffer of output window 11, through which its contents are stated (`View.read_writes_of_cover`: the
    choice does not matter). -/
abbrev VO0_11 : View sig .tc .vmem S256x192 .fp8e4m3 := (Memref.whole cc0_stg11_0 : Memref sig .tc .vmem S256x192 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1536 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x192 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3072 .bf16 := Memref.whole cc0_scratch0
abbrev scM0_1 : Memref sig .tc .vmem S256x32 .bf16 := Memref.whole cc0_scratch1
abbrev scM0_2 : Memref sig .tc .vmem S2x256x128 .f32 := Memref.whole cc0_scratch2
abbrev scM0_3 : Memref sig .tc .vmem S16x256 .f32 := Memref.whole cc0_scratch3
abbrev scM0_4 : Memref sig .tc .vmem S16x256 .f32 := Memref.whole cc0_scratch4
abbrev scM0_5 : Memref sig .tc .vmem S192x256 .f32 := Memref.whole cc0_scratch5
abbrev scM0_6 : Memref sig .tc .vmem S192x512 .f32 := Memref.whole cc0_scratch6
/-- The scratch `arg13` the kernel carries between points, as a view: what it holds is stated through it. -/
abbrev VS0_0 : View sig .tc .vmem S256x3072 .bf16 := scM0_0.view
/-- The scratch `arg14` the kernel carries between points, as a view: what it holds is stated through it. -/
abbrev VS0_1 : View sig .tc .vmem S256x32 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Run

end
-- ==== Proof.RunKernel.RunA.lean ====
/- The body run at the first point. -/
module

public import proofs.«01_k».proof.Proof.RunKernel.Shared

@[expose] public section

-- a rectangle of long axes is looked at once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10032000 in set_option sl_exec.squeezeSlice true in
/-- The first point: what its stores leave in each output's staging buffer and in each scratch buffer, as pieces (the last
    store first), with the proof that the body, handed the input buffers at `x0` … `x8` and the rest at anything, runs to
    the continuation holding the inputs as they were and those pieces written. -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole) (hc0 : cond0_0 i)
    (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32) :
    Σ' (L9 : List (View.Piece (Elt F) S256x512 .bf16)), Σ' (L10 : List (View.Piece (Elt F) S256x1536 .i8)), Σ' (L11 : List (View.Piece (Elt F) S256x192 .fp8e4m3)), Σ' (LS0 : List (View.Piece (Elt F) S256x3072 .bf16)), Σ' (LS1 : List (View.Piece (Elt F) S256x32 .bf16)), Σ' (LT2 : List (View.Piece (Elt F) S2x256x128 .f32)), Σ' (LT3 : List (View.Piece (Elt F) S16x256 .f32)), Σ' (LT4 : List (View.Piece (Elt F) S16x256 .f32)), Σ' (LT5 : List (View.Piece (Elt F) S192x256 .f32)), { LT6 : List (View.Piece (Elt F) S192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4) ∗ (∃ f, arg18.view.loc (c : Thread nD τ) ↦[arg18.view.set]{fullShare} arg18.view.writes (Elt F) f LT5) ∗ (∃ f, arg19.view.loc (c : Thread nD τ) ↦[arg19.view.set]{fullShare} arg19.view.writes (Elt F) f LT6)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_svdquant_eq_skeleton]; unfold cc0_svdquant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel.Run

end
-- ==== Proof.RunKernel.RunB.lean ====
/- The body run at a later point. -/
module

public import proofs.«01_k».proof.Proof.RunKernel.Shared

@[expose] public section

-- a rectangle of long axes is looked at once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1292000 in
/-- A later point: what its store leaves in the staging buffer of output 9, as pieces, with the proof that the body, handed
    the input buffers at `x0` … `x8`, outputs 10 and 11 at `xo10`, `xo11` and the two carried scratch buffers at `xs0`, `xs1`,
    runs to the continuation holding all of those as they were and the pieces written. -/
noncomputable def kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole) (hc0 : ¬cond0_0 i)
    (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32) (xo10 : Vec F S256x1536 .i8) (xo11 : Vec F S256x192 .fp8e4m3) (xs0 : Vec F S256x3072 .bf16) (xs1 : Vec F S256x32 .bf16) :
    { L9 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ owns (c : Thread nD τ) arg12 fullShare xo11 ∗ owns (c : Thread nD τ) arg13 fullShare xs0 ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_svdquant_eq_skeleton]; unfold cc0_svdquant_skel
    simp only [k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg13.read_unread _
      iexact HS0
    isplitl [HS1]
    · iexists _; isplitr; · ipureintro; exact harg14.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Run

end
-- ==== Proof.RunKernel.Outs.lean ====
/- What every point leaves in the outputs and in the scratch buffers carried between points. -/
module

public import proofs.«01_k».proof.Proof.RunKernel.RunA
public import proofs.«01_k».proof.Proof.RunKernel.RunB

@[expose] public section

-- a rectangle of long axes is looked at once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000

section Outs

variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32)
variable (xo10 : Vec F S256x1536 .i8) (xo11 : Vec F S256x192 .fp8e4m3) (xs0 : Vec F S256x3072 .bf16) (xs1 : Vec F S256x32 .bf16)

/-- The stores of the first point into output 9 cover it. -/
theorem cover0_A_9 (hc0 : cond0_0 i) (y : S256x512.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1 S256x512.size (by sl_kernel_rfl) y

/-- What the first point leaves in output 9. -/
def out0_A_9 (hc0 : cond0_0 i) : Vec F S256x512 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1)

/-- The stores of the first point into output 10 cover it. -/
theorem cover0_A_10 (hc0 : cond0_0 i) (y : S256x1536.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1 S256x128.size (by sl_kernel_rfl) y

/-- What the first point leaves in output 10. -/
def out0_A_10 (hc0 : cond0_0 i) : Vec F S256x1536 .i8 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1)

/-- The stores of the first point into output 11 cover it. -/
theorem cover0_A_11 (hc0 : cond0_0 i) (y : S256x192.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1 S256x192.size (by sl_kernel_rfl) y

/-- What the first point leaves in output 11. -/
def out0_A_11 (hc0 : cond0_0 i) : Vec F S256x192 .fp8e4m3 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1)

/-- The stores of the first point into the first carried scratch cover it. -/
theorem scover0_A_0 (hc0 : cond0_0 i) (y : S256x3072.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1 S256x256.size (by sl_kernel_rfl) y

/-- What the first point leaves in the first carried scratch. -/
def sout0_A_0 (hc0 : cond0_0 i) : Vec F S256x3072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1)

/-- The stores of the first point into the second carried scratch cover it. -/
theorem scover0_A_1 (hc0 : cond0_0 i) (y : S256x32.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1 S256x32.size (by sl_kernel_rfl) y

/-- What the first point leaves in the second carried scratch. -/
def sout0_A_1 (hc0 : cond0_0 i) : Vec F S256x32 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1)

/-- The stores of a later point into output 9 cover it. -/
theorem cover0_B_9 (hc1 : ¬cond0_0 i) (y : S256x512.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1 S256x512.size (by sl_kernel_rfl) y

/-- What a later point leaves in output 9. -/
def out0_B_9 (hc1 : ¬cond0_0 i) : Vec F S256x512 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1)

end Outs

/-- The grid's first point. -/
abbrev p0 : Fin cfg0.N := ⟨0, lt_of_lt_of_eq (by omega : 0 < 24) N_0.symm⟩

theorem hc_p0 : cond0_0 (grid0.coords p0) := (hcond0_0 p0).mpr rfl

/-- What the first point leaves in the three outputs and in the two carried scratch buffers. -/
def first (c : Dev nD) : Vec F S256x512 .bf16 × Vec F S256x1536 .i8 × Vec F S256x192 .fp8e4m3 × Vec F S256x3072 .bf16 × Vec F S256x32 .bf16 :=
  (out0_A_9 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      out0_A_10 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      out0_A_11 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      sout0_A_0 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0,
      sout0_A_1 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0)

/-- What point `t` leaves in the three outputs and in the two carried scratch buffers: a later point computes its own
    block of output 9 from what the first point left in the scratch, and the other four stay. -/
def outsAt0 (c : Dev nD) (t : Fin cfg0.N) : Vec F S256x512 .bf16 × Vec F S256x1536 .i8 × Vec F S256x192 .fp8e4m3 × Vec F S256x3072 .bf16 × Vec F S256x32 .bf16 :=
  if h : cond0_0 (grid0.coords t) then first m c
  else (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (first m c).2.1 (first m c).2.2.1 (first m c).2.2.2.1 (first m c).2.2.2.2 h,
    (first m c).2)

theorem first_eq (c : Dev nD) (t : Fin cfg0.N) (h : cond0_0 (grid0.coords t)) : first m c = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h,
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) h) := by
  have ht : t = p0 := by
    have hN : t.val < 24 := lt_of_lt_of_eq t.isLt (show cfg0.N = 24 from N_0)
    have := (hcond0_0 t).mp h
    exact Fin.ext (show t.val = 0 by omega)
  subst ht
  delta first
  exact Eq.refl _

theorem outsAt0_A (c : Dev nD) (t : Fin cfg0.N) (h : cond0_0 (grid0.coords t)) : outsAt0 m c t = first m c := by
  delta outsAt0; exact dif_pos h

theorem outsAt0_B (c : Dev nD) (t : Fin cfg0.N) (h : ¬cond0_0 (grid0.coords t)) : outsAt0 m c t =
    (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (first m c).2.1 (first m c).2.2.1 (first m c).2.2.2.1 (first m c).2.2.2.2 h,
    (first m c).2) := by
  delta outsAt0; exact dif_neg h

theorem outsAt0_snd (c : Dev nD) (t : Fin cfg0.N) : (outsAt0 m c t).2 = (first m c).2 := by
  by_cases h : cond0_0 (grid0.coords t)
  · rw [outsAt0_A m c t h]
  · rw [outsAt0_B m c t h]

end Cert.Kernel.Run

end
-- ==== Proof.RunKernel.Frame.lean ====
/- The frame of the kernel: the invariant between points, the body at every point, the run of the program. -/
module

public import proofs.«01_k».proof.Proof.RunKernel.Outs
public import Idealize.ShloMosaic.Lib.Claim

@[expose] public section

-- a rectangle of long axes is looked at once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

/-- The region's invariant before position `n`: before the first point every scratch holds anything; afterwards the two
    carried scratch buffers hold what the first point left in them. -/
def PhiS (c : Dev nD) : ℕ → sProp 𝕄
  | 0 => Pipeline.ΦA spec0 c
  | _ + 1 => iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_succ (c : Dev nD) (n : ℕ) : PhiS m c (n + 1) = iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_zero (c : Dev nD) (n : ℕ) (hz : n = 0) : PhiS m c n = Pipeline.ΦA spec0 c := by
  subst hz; rfl

theorem PhiS_pos (c : Dev nD) (n : ℕ) (hz : n ≠ 0) : PhiS m c n = iprop(iprop(owns (c : Thread nD τ) scM0_0 fullShare ((first m c).2.2.2.1) ∗ owns (c : Thread nD τ) scM0_1 fullShare ((first m c).2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2.1
  Φ t := PhiS m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

/-- What the body leaves, window by window . -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 10 keeps its contents through the points that leave it alone. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ _ _
  rw [after0_10, after0_10, outsAt0_snd, outsAt0_snd]

/-- At a later point output 10 holds what the first point left. -/
theorem before0_10_B (c : Dev nD) (t : Fin cfg0.N) (h : ¬cond0_0 (grid0.coords t)) (d) :
    (dats m 0 c).before 10 t d = (first m c).2.1 := by
  rw [Dat.before_out_traj _ 10 rfl (fun _ _ => rfl) (hcarry0_10 m c) t.val t rfl d,
    if_neg (by rw [notFresh0_10_B t h]; exact Bool.false_ne_true), after0_10, outsAt0_snd]

/-- A later point leaves output 10 at what the first point left in it, written back there or not. -/
theorem leaves0_10_B (c : Dev nD) (t : Fin cfg0.N) (h : ¬cond0_0 (grid0.coords t)) :
    owns (c : Thread nD τ) (ms0_10 t) fullShare ((first m c).2.1) ⊢ (dats m 0 c).leavesExact 10 t := by
  cases hf : (cfg0.win 10).flush t with
  | false =>
    rw [Dat.leavesExact_idle _ 10 t (idleAt0_10_B t h) hf]
    simp only [before0_10_B m c t h]
    iintro H
    iexists (first m c).2.1; iexact H
  | true =>
    rw [show (dats m 0 c).leavesExact 10 t = owns (c : Thread nD τ) (ms0_10 t) fullShare ((dats m 0 c).after 10 t) from by
      unfold Dat.leavesExact; rw [idleAt0_10_B t h, hf], after0_10, outsAt0_snd]

/-- Output 11 keeps its contents through the points that leave it alone. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ _ _
  rw [after0_11, after0_11, outsAt0_snd, outsAt0_snd]

/-- At a later point output 11 holds what the first point left. -/
theorem before0_11_B (c : Dev nD) (t : Fin cfg0.N) (h : ¬cond0_0 (grid0.coords t)) (d) :
    (dats m 0 c).before 11 t d = (first m c).2.2.1 := by
  rw [Dat.before_out_traj _ 11 rfl (fun _ _ => rfl) (hcarry0_11 m c) t.val t rfl d,
    if_neg (by rw [notFresh0_11_B t h]; exact Bool.false_ne_true), after0_11, outsAt0_snd]

/-- A later point leaves output 11 at what the first point left in it, written back there or not. -/
theorem leaves0_11_B (c : Dev nD) (t : Fin cfg0.N) (h : ¬cond0_0 (grid0.coords t)) :
    owns (c : Thread nD τ) (ms0_11 t) fullShare ((first m c).2.2.1) ⊢ (dats m 0 c).leavesExact 11 t := by
  cases hf : (cfg0.win 11).flush t with
  | false =>
    rw [Dat.leavesExact_idle _ 11 t (idleAt0_11_B t h) hf]
    simp only [before0_11_B m c t h]
    iintro H
    iexists (first m c).2.2.1; iexact H
  | true =>
    rw [show (dats m 0 c).leavesExact 11 t = owns (c : Thread nD τ) (ms0_11 t) fullShare ((dats m 0 c).after 11 t) from by
      unfold Dat.leavesExact; rw [idleAt0_11_B t h, hf], after0_11, outsAt0_snd]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 12800000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  have hN : t.val < 24 := lt_of_lt_of_eq t.isLt (show cfg0.N = 24 from N_0)
  by_cases h0 : cond0_0 (grid0.coords t)
  · have hz : t.val = 0 := by have := (hcond0_0 t).mp h0; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_A t h0], after0_10]
      rw [show (dats m 0 c).leavesExact 11 t = owns (c : Thread nD τ) (ms0_11 t) fullShare ((dats m 0 c).after 11 t) from by
      unfold Dat.leavesExact; rw [liveAt0_11_A t h0], after0_11]
      · rw [PhiS_castSucc m c t, PhiS_zero m c _ hz, PhiA0_eq]
        rw [outsAt0_A m c t h0, first_eq m c t h0]
        unfold out0_A_9 out0_A_10 out0_A_11 sout0_A_0 sout0_A_1; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t)).2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, ⟨%e9, H9⟩, ⟨%e10, H10⟩, ⟨%e11, H11⟩, ⟨%es0, HS0⟩, ⟨%es1, HS1⟩, ⟨%fT2, HS2⟩, ⟨%fT3, HS3⟩, ⟨%fT4, HS4⟩, ⟨%fT5, HS5⟩, ⟨%fT6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            iexists _; unfold owns; iexists _; isplitr
            swap; · iexact HS6
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
  · have hz : t.val ≠ 0 := fun hz => h0 ((hcond0_0 t).mpr (by rw [hz]))
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      · rw [PhiS_castSucc m c t, PhiS_pos m c _ hz]
        rw [outsAt0_B m c t h0]
        simp only [before0_10_B m c t h0, before0_11_B m c t h0]
        unfold out0_B_9; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, ⟨%e9, H9⟩, H10, H11, HS0, HS1, HS2, HS3, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _)
        isplitl [H10]
        · iapply (leaves0_10_B m c t h0); iexact H10
        iapply (leaves0_11_B m c t h0); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Run

end
-- ==== Proof.Run.Chunk.lean ====
/- One chunk of 256 activations per row, as functions of what the chunk loads. -/
module

public import proofs.«01_k».proof.Proof.Run.Shared

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Sixteen slabs of sixteen rows laid one after the other. -/
def cat {N : ℕ} {α : Type} (v : Fin 16 → (⟨2, ![16, N]⟩ : Shape).Idx → α)
    (h : Shape.Concatenates (List.replicate 16 ⟨2, ![16, N]⟩) ⟨2, ![256, N]⟩ 0) :
    (⟨2, ![256, N]⟩ : Shape).Idx → α :=
  concatenate ⟨2, ![256, N]⟩ 0 (List.ofFn fun n : Fin 16 => (⟨⟨2, ![16, N]⟩, v n⟩ : (s : Shape) × (s.Idx → α))) h

/-- Sixteen slabs make a chunk's square. -/
theorem concats256 : Shape.Concatenates (List.replicate 16 ⟨2, ![16, 256]⟩) ⟨2, ![256, 256]⟩ 0 := by decide

/-- Sixteen slabs make a chunk of weights. -/
theorem concats512 : Shape.Concatenates (List.replicate 16 ⟨2, ![16, 512]⟩) ⟨2, ![256, 512]⟩ 0 := by decide

/-- Slab `k` of a chunk's square. -/
theorem slices256 (k : Fin 16) : S256x256.Slices ![16 * k.val, 0] S16x256 := by revert k; decide

/-- Slab `k` of a chunk of weights. -/
theorem slices512 (k : Fin 16) : S256x512.Slices ![16 * k.val, 0] S16x512 := by revert k; decide

/-- The chunk of activations times its smoothing factors, transposed. -/
def cXT (xc : Vec F S256x256 .bf16) (sc : Vec F S1x256 .f32) : FVec F S256x256 .f32 :=
  k0_pay4 xc sc

/-- The largest absolute value of sixteen strided loads, element by element. -/
def cHalf (w : Fin 16 → FVec F S16x128 .f32) : FVec F S16x128 .f32 :=
  maximumf (maximumf (maximumf (maximumf (maximumf (maximumf (maximumf (maximumf (maximumf (maximumf (maximumf (maximumf (maximumf (maximumf (maximumf (absf (w 0)) (absf (w 1))) (absf (w 2))) (absf (w 3))) (absf (w 4))) (absf (w 5))) (absf (w 6))) (absf (w 7))) (absf (w 8))) (absf (w 9))) (absf (w 10))) (absf (w 11))) (absf (w 12))) (absf (w 13))) (absf (w 14))) (absf (w 15))

/-- The scale before rounding to its stored format, from the strided loads of the two halves of a transposed chunk. -/
def cAmax (xg : Elt F .f32) (lo hi : Fin 16 → Vec F S16x128 .f32) : FVec F S16x256 .f32 :=
  divf (concatenate S16x256 1 [⟨S16x128, cHalf lo⟩, ⟨S16x128, cHalf hi⟩] concatenates_S16x128_S16x128_S16x256_d1)
    (broadcast S16x256 (Scalar.mulf (Scalar.ofBits .f32 0x40C00000#32) xg))

/-- The quotients of a chunk by the rows of divisors. -/
def cQuot (xt : FVec F S256x256 .f32) (den : Fin 16 → Vec F S1x256 .f32) : FVec F S256x256 .f32 :=
  cat (fun k => divf (extractStridedSlice S16x256 ![16 * k.val, 0] xt (slices256 k))
    (broadcastTo S16x256 (shapeCast S1x256 (den k) shapeCasts_S1x256_S1x256) broadcasts_S1x256_S16x256)) concats256

/-- The clipped quotients. -/
def cT (xt : FVec F S256x256 .f32) (den : Fin 16 → Vec F S1x256 .f32) : FVec F S256x256 .f32 :=
  minimumf (broadcast S256x256 (Scalar.ofBits .f32 0x40C00000#32)) (maximumf (broadcast S256x256 (Scalar.ofBits .f32 0xC0C00000#32)) (cQuot xt den))

/-- The number of the first five thresholds passed. -/
def cCnt (t : FVec F S256x256 .f32) : IVec S256x256 32 :=
  addi (addi (addi (addi (extui 32 (cmpf .ogt (absf t) (broadcast S256x256 (Scalar.ofBits .f32 0x3E800000#32))) natLt_1_32) (extui 32 (cmpf .oge (absf t) (broadcast S256x256 (Scalar.ofBits .f32 0x3F400000#32))) natLt_1_32)) (extui 32 (cmpf .ogt (absf t) (broadcast S256x256 (Scalar.ofBits .f32 0x3FA00000#32))) natLt_1_32)) (extui 32 (cmpf .oge (absf t) (broadcast S256x256 (Scalar.ofBits .f32 0x3FE00000#32))) natLt_1_32)) (extui 32 (cmpf .ogt (absf t) (broadcast S256x256 (Scalar.ofBits .f32 0x40200000#32))) natLt_1_32)

/-- The words of eight codes of a chunk, but for the last code. -/
def cWordA (t : FVec F S256x256 .f32) : IVec S32x256 32 := k0_pay36 t (absf t) (cCnt t) k0_pay34

/-- The last code of each word of a chunk. -/
def cWordB (t : FVec F S256x256 .f32) : IVec S32x256 32 := k0_pay37 t (absf t) (cCnt t) k0_pay34

/-- The packed codes of a chunk, transposed back. -/
def cXP (t : FVec F S256x256 .f32) : IVec S256x128 8 := k0_pay39 (cWordA t) (cWordB t)

/-- The values the codes of a chunk stand for. -/
def cVals (t : FVec F S256x256 .f32) : FVec F S256x256 .bf16 := k0_pay40 (cWordA t) (cWordB t)

/-- The values of a chunk times the rows of scales, transposed back. -/
def cXQ (vals : FVec F S256x256 .bf16) (pr : Fin 16 → Vec F S1x256 .f32) : FVec F S256x256 .bf16 :=
  shapeCast S256x256 (transpose S256x256 [1, 0] (cat (fun k => mulf (extractStridedSlice S16x256 ![16 * k.val, 0] vals (slices256 k))
    (truncf .bf16 (broadcastTo S16x256 (shapeCast S1x256 (pr k) shapeCasts_S1x256_S1x256) broadcasts_S1x256_S16x256) bitsLt_bf16_f32)) concats256)
    transposes_S256x256_p1_0_S256x256) shapeCasts_S256x256_S256x256

/-- The dequantised weights of a chunk, from its packed codes and the rows of scales. -/
def wQ (w : Vec F S128x512 .i8) (ws : Fin 16 → Vec F S1x512 .f32) : FVec F S256x512 .bf16 :=
  cat (fun k => mulf (extractStridedSlice S16x512 ![16 * k.val, 0] (k0_pay653 (F := F) (k0_pay651 (F := F) w) (k0_pay652 w)) (slices512 k))
    (truncf .bf16 (broadcastTo S16x512 (shapeCast S1x512 (ws k) shapeCasts_S1x512_S1x512) broadcasts_S1x512_S16x512) bitsLt_bf16_f32)) concats512

/-- The product of a chunk of activations and a chunk of weights. -/
def wDot (xq : Vec F S256x256 .bf16) (w : Vec F S128x512 .i8) (ws : Fin 16 → Vec F S1x512 .f32) : FVec F S256x512 .f32 :=
  matmul dot_S256x256_S256x512_S256x512_1_0_0_1_n_n none xq (wQ w ws) (constant S256x512 .f32 0x00000000#32)

/-- The sum of the chunks' products. -/
def yAcc (xq : Fin 12 → Vec F S256x256 .bf16) (w : Fin 12 → Vec F S128x512 .i8) (ws : Fin 12 → Fin 16 → Vec F S1x512 .f32) : FVec F S256x512 .f32 :=
  addf (addf (addf (addf (addf (addf (addf (addf (addf (addf (addf (wDot (xq 0) (w 0) (ws 0)) (wDot (xq 1) (w 1) (ws 1))) (wDot (xq 2) (w 2) (ws 2))) (wDot (xq 3) (w 3) (ws 3))) (wDot (xq 4) (w 4) (ws 4))) (wDot (xq 5) (w 5) (ws 5))) (wDot (xq 6) (w 6) (ws 6))) (wDot (xq 7) (w 7) (ws 7))) (wDot (xq 8) (w 8) (ws 8))) (wDot (xq 9) (w 9) (ws 9))) (wDot (xq 10) (w 10) (ws 10))) (wDot (xq 11) (w 11) (ws 11))

/-- The block of the first result. -/
def yOf (xg wg : Elt F .f32) (xq : Fin 12 → Vec F S256x256 .bf16) (w : Fin 12 → Vec F S128x512 .i8) (ws : Fin 12 → Fin 16 → Vec F S1x512 .f32)
    (h : Vec F S256x32 .bf16) (lup : Vec F S32x512 .bf16) (bias : Vec F S1x512 .f32) : FVec F S256x512 .bf16 :=
  k0_pay1 (addf (mulf (yAcc xq w ws) (broadcast S256x512 (Scalar.mulf xg wg)))
    (matmul dot_S256x32_S32x512_S256x512_1_0_0_1_n_n none h lup (constant S256x512 .f32 0x00000000#32))) bias

/-- The sum of the chunks' products with the low-rank factor. -/
def hSum (xc : Fin 12 → Vec F S256x256 .bf16) (sc : Fin 12 → Vec F S1x256 .f32) (lc : Fin 12 → Vec F S256x32 .bf16) : FVec F S256x32 .f32 :=
  k0_pay59 (k0_pay59 (k0_pay59 (k0_pay59 (k0_pay59 (k0_pay59 (k0_pay59 (k0_pay59 (k0_pay59 (k0_pay59 (k0_pay59 (k0_pay3 (xc 0) (sc 0) (lc 0)) (xc 1) (sc 1) (lc 1)) (xc 2) (sc 2) (lc 2)) (xc 3) (sc 3) (lc 3)) (xc 4) (sc 4) (lc 4)) (xc 5) (sc 5) (lc 5)) (xc 6) (sc 6) (lc 6)) (xc 7) (sc 7) (lc 7)) (xc 8) (sc 8) (lc 8)) (xc 9) (sc 9) (lc 9)) (xc 10) (sc 10) (lc 10)) (xc 11) (sc 11) (lc 11)

section Step
variable (v15 : View sig .tc .vmem S2x256x128 .f32) (v16 v17 : View sig .tc .vmem S16x256 .f32)
  (L2 : List (View.Piece (Elt F) S2x256x128 .f32)) (L3 L4 : List (View.Piece (Elt F) S16x256 .f32))
  (xg : Elt F .f32) (xc : Vec F S256x256 .bf16) (sc : Vec F S1x256 .f32)

/-- The first half of a transposed chunk, stored. -/
def hA : List (View.Piece (Elt F) S2x256x128 .f32) :=
  ⟨Rect.unit (s := S2x256x128) ![0, 0, 0] S1x256x128.size inb_S2x256x128_S1x256x128_0_0_0, k0_pay5 xc sc⟩ :: L2

/-- Both halves of a transposed chunk, stored. -/
def hB : List (View.Piece (Elt F) S2x256x128 .f32) :=
  ⟨Rect.unit (s := S2x256x128) ![1, 0, 0] S1x256x128.size inb_S2x256x128_S1x256x128_1_0_0, k0_pay10 (cXT xc sc)⟩ :: hA L2 xc sc

/-- The rows `e`, `e + 16`, … of a half. -/
def sBox (e : Fin 16) : LoadRect S256x128 :=
  { off := ![e.val, 0], size := S16x128.size, stride := ![16, 1],
    inb := by intro a; refine Or.inr ?_; have := e.isLt; fin_cases a <;> simp [S16x128, S256x128] <;> omega }

/-- The strided load of the half stored last, at the place `o`. -/
def half (o : ℕ) (inb : ∀ a, (![o, 0, 0] : Fin 3 → ℕ) a + S1x256x128.size a ≤ S2x256x128.size a) (L : List (View.Piece (Elt F) S2x256x128 .f32)) (e : Fin 16) : Vec F S16x128 .f32 :=
  LoadRect.valAlong (lr := sBox e) ((sBox e).numel_consLift ![1, 256, 128] rfl (by decide))
    (v15.readCov L ((Rect.unit (s := S2x256x128) ![o, 0, 0] S1x256x128.size inb).withinL ((sBox e).consLift ![1, 256, 128] rfl (by decide)) (fun _ => rfl)))

/-- The scales of a chunk before rounding, from the loads of its halves. -/
def aR : FVec F S16x256 .f32 :=
  cAmax xg (half v15 0 inb_S2x256x128_S1x256x128_0_0_0 (hA L2 xc sc)) (half v15 1 inb_S2x256x128_S1x256x128_1_0_0 (hB L2 xc sc))

/-- The divisors of a chunk, stored. -/
def hDen : List (View.Piece (Elt F) S16x256 .f32) :=
  ⟨Rect.unit (s := S16x256) ![0, 0] S16x256.size inb_S16x256_S16x256_0_0, k0_pay15 xg (aR v15 L2 xg xc sc)⟩ :: L3

/-- The scales of a chunk, stored. -/
def hPr : List (View.Piece (Elt F) S16x256 .f32) :=
  ⟨Rect.unit (s := S16x256) ![0, 0] S16x256.size inb_S16x256_S16x256_0_0, k0_pay16 (aR v15 L2 xg xc sc)⟩ :: L4

/-- A row of a buffer of sixteen rows. -/
def rBox (g : Fin 16) : Rect S16x256 :=
  Rect.unit (s := S16x256) ![g.val, 0] S1x256.size (by intro a; have := g.isLt; fin_cases a <;> simp [S16x256, S1x256] <;> omega)

/-- The packed codes of a chunk, from the loads of its divisors. -/
def xpR : IVec S256x128 8 :=
  cXP (cT (cXT xc sc) fun g => v16.readCov (hDen v15 L2 L3 xg xc sc) (rBox g).toLoadRect)

/-- The dequantised activations of a chunk, from the loads of its divisors and scales. -/
def xqR : FVec F S256x256 .bf16 :=
  cXQ (cVals (cT (cXT xc sc) fun g => v16.readCov (hDen v15 L2 L3 xg xc sc) (rBox g).toLoadRect))
    fun g => v17.readCov (hPr v15 L2 L4 xg xc sc) (rBox g).toLoadRect

end Step

end Cert.KernelIdeal.Run

end
-- ==== Proof.Run.ChunkRun.lean ====
/- The stores of the first point, chunk by chunk. -/
module

public import proofs.«01_k».proof.Proof.Run.RunA
public import proofs.«01_k».proof.Proof.Run.Chunk

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lists of stores: transposed halves, divisors, scales of a chunk, all scales, packed codes, dequantised activations. -/
structure Lists (F : FTy → Type) [FloatOps F] where
  L2 : List (View.Piece (Elt F) S2x256x128 .f32)
  L3 : List (View.Piece (Elt F) S16x256 .f32)
  L4 : List (View.Piece (Elt F) S16x256 .f32)
  L5 : List (View.Piece (Elt F) S192x256 .f32)
  LX : List (View.Piece (Elt F) S256x1536 .i8)
  LQ : List (View.Piece (Elt F) S256x3072 .bf16)

/-- Nothing stored. -/
def init : Lists F := ⟨[], [], [], [], [], []⟩

/-- The columns of chunk `k`. -/
def bX (k : Fin 12) : Rect S256x3072 :=
  Rect.unit (s := S256x3072) ![0, 256 * k.val] S256x256.size (by intro a; have := k.isLt; fin_cases a <;> simp [S256x3072, S256x256] <;> omega)

/-- The factors of chunk `k`. -/
def bS (k : Fin 12) : Rect S1x3072 :=
  Rect.unit (s := S1x3072) ![0, 256 * k.val] S1x256.size (by intro a; have := k.isLt; fin_cases a <;> simp [S1x3072, S1x256] <;> omega)

/-- The rows of scales of chunk `k`. -/
def bR (k : Fin 12) : Rect S192x256 :=
  Rect.unit (s := S192x256) ![16 * k.val, 0] S16x256.size (by intro a; have := k.isLt; fin_cases a <;> simp [S192x256, S16x256] <;> omega)

/-- The columns of packed codes of chunk `k`. -/
def bP (k : Fin 12) : Rect S256x1536 :=
  Rect.unit (s := S256x1536) ![0, 128 * k.val] S256x128.size (by intro a; have := k.isLt; fin_cases a <;> simp [S256x1536, S256x128] <;> omega)

/-- What chunk `k` adds to the lists. -/
def step (v15 : View sig .tc .vmem S2x256x128 .f32) (v16 v17 : View sig .tc .vmem S16x256 .f32) (xg : Elt F .f32)
    (xc : Fin 12 → Vec F S256x256 .bf16) (sc : Fin 12 → Vec F S1x256 .f32) (l : Lists F) (k : Fin 12) : Lists F :=
  ⟨hB l.L2 (xc k) (sc k), hDen v15 l.L2 l.L3 xg (xc k) (sc k), hPr v15 l.L2 l.L4 xg (xc k) (sc k),
    ⟨bR k, k0_pay17 (aR v15 l.L2 xg (xc k) (sc k))⟩ :: l.L5,
    ⟨bP k, xpR v15 v16 l.L2 l.L3 xg (xc k) (sc k)⟩ :: l.LX,
    ⟨bX k, xqR v15 v16 v17 l.L2 l.L3 l.L4 xg (xc k) (sc k)⟩ :: l.LQ⟩

/-- The activations' scale, loaded. -/
def xgOf (arg1 : Memref sig .tc .smem S1 .f32) (harg1 : arg1.IsWhole) (x0 : Vec F S1 .f32) : Elt F .f32 :=
  View.readAt (Elt F) arg1.view (Rect.unit (s := S1) ![0] S1.size inb_S1_S1_0).toLoadRect (harg1.unread x0) (Shape.Idx.first (by decide))

/-- The activations of chunk `k`, loaded. -/
def xcOf (arg3 : Memref sig .tc .vmem S256x3072 .bf16) (harg3 : arg3.IsWhole) (x2 : Vec F S256x3072 .bf16) (k : Fin 12) : Vec F S256x256 .bf16 :=
  View.readAt (Elt F) arg3.view (bX k).toLoadRect (harg3.unread x2)

/-- The factors of chunk `k`, loaded. -/
def scOf (arg4 : Memref sig .tc .vmem S1x3072 .f32) (harg4 : arg4.IsWhole) (x3 : Vec F S1x3072 .f32) (k : Fin 12) : Vec F S1x256 .f32 :=
  View.readAt (Elt F) arg4.view (bS k).toLoadRect (harg4.unread x3)

/-- The rows of the low-rank factor of chunk `k`. -/
def bL (k : Fin 12) : Rect S3072x32 :=
  Rect.unit (s := S3072x32) ![256 * k.val, 0] S256x32.size (by intro a; have := k.isLt; fin_cases a <;> simp [S3072x32, S256x32] <;> omega)

/-- The rows of the low-rank factor of chunk `k`, loaded. -/
def lcOf (arg5 : Memref sig .tc .vmem S3072x32 .bf16) (harg5 : arg5.IsWhole) (x4 : Vec F S3072x32 .bf16) (k : Fin 12) : Vec F S256x32 .bf16 :=
  View.readAt (Elt F) arg5.view (bL k).toLoadRect (harg5.unread x4)

section
variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32)
variable (xo10 : Vec F S256x1536 .i8) (xo11 : Vec F S256x192 .fp8e4m3) (xs0 : Vec F S256x3072 .bf16) (xs1 : Vec F S256x32 .bf16)

/-- The lists after the twelve chunks. -/
def lists : Lists F :=
  (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) (step arg15.view arg16.view arg17.view (xgOf arg1 harg1 x0) (xcOf arg3 harg3 x2) (scOf arg4 harg4 x3) init 0) 1) 2) 3) 4) 5) 6) 7) 8) 9) 10) 11)

/-- What the first point stores of the packed codes. -/
theorem runA_xp (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1 = (lists arg1 harg1 arg3 harg3 arg4 harg4 arg15 arg16 arg17 x0 x2 x3).LX := by
  sl_kernel_rfl

/-- What the first point stores of the dequantised activations. -/
theorem runA_xq (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1 = (lists arg1 harg1 arg3 harg3 arg4 harg4 arg15 arg16 arg17 x0 x2 x3).LQ := by
  sl_kernel_rfl

/-- What the first point stores of the scales. -/
theorem runA_sc (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1
    = [⟨Rect.unit (s := S256x192) ![0, 0] S256x192.size inb_S256x192_S256x192_0_0, k0_pay649 (arg18.view.readCov (lists arg1 harg1 arg3 harg3 arg4 harg4 arg15 arg16 arg17 x0 x2 x3).L5 (Rect.unit (s := S192x256) ![0, 0] S192x256.size inb_S192x256_S192x256_0_0).toLoadRect)⟩] := by
  sl_kernel_rfl

/-- What the first point stores of the low-rank activations. -/
theorem runA_h (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1
    = [⟨Rect.unit (s := S256x32) ![0, 0] S256x32.size inb_S256x32_S256x32_0_0, k0_pay648 (hSum (xcOf arg3 harg3 x2) (scOf arg4 harg4 x3) (lcOf arg5 harg5 x4))⟩] := by
  sl_kernel_rfl

end

end Cert.KernelIdeal.Run

end
-- ==== Proof.Run.Spec.lean ====
/- The mathematics of the layer's results: scales, codes, sums. -/
module

public import Idealize.ShloMosaic.PureOps.Ideal
public import Idealize.ShloMosaic.PureOps.Ideal.Laws
public import Idealize.ShloMosaic.Lib.Pointwise

@[expose] public section

noncomputable section

namespace Cert.Spec

open Idealize.ShloMosaic

/-- The largest absolute value of sixteen numbers. -/
def amax (f : Fin 16 → EReal) : EReal := Finset.fold max (⊥ : EReal) (fun e => max (f e) (-(f e))) Finset.univ

/-- The clamped scale: one in the place of zero. -/
def scaleOf (s : EReal) : EReal :=
  if min (Ideal.ofBits .f32 1138753536#32) (max 0 s) = 0 then 1 else min (Ideal.ofBits .f32 1138753536#32) (max 0 s)

/-- The activations times their smoothing factors. -/
def xs (X : (⟨2, ![256, 3072]⟩ : Shape).Idx → EReal) (S : (⟨2, ![1, 3072]⟩ : Shape).Idx → EReal) (i : Fin 256) (d : Fin 3072) : EReal :=
  X (ix2 i d) * S (ix2 0 d)

/-- The scale of row `i`'s group `g` of sixteen. -/
def scale (X : (⟨2, ![256, 3072]⟩ : Shape).Idx → EReal) (S : (⟨2, ![1, 3072]⟩ : Shape).Idx → EReal) (xg : EReal) (i : Fin 256) (g : Fin 192) : EReal :=
  scaleOf (Ideal.div (amax fun e => xs X S i ⟨16 * g.val + e.val, by omega⟩) (Ideal.ofBits .f32 1086324736#32 * xg))

/-- The maximum of sixteen numbers, taken in turn. -/
theorem fold16 (f : Fin 16 → EReal) :
    max (max (max (max (max (max (max (max (max (max (max (max (max (max (max (f 0) (f 1)) (f 2)) (f 3)) (f 4)) (f 5)) (f 6)) (f 7)) (f 8)) (f 9)) (f 10)) (f 11)) (f 12)) (f 13)) (f 14)) (f 15)
      = Finset.fold max (⊥ : EReal) f Finset.univ := by
  have h : ∀ e, f e ≤ Finset.fold max (⊥ : EReal) f Finset.univ := fun e => (Finset.le_fold_max _).2 (Or.inr ⟨e, Finset.mem_univ e, le_rfl⟩)
  apply le_antisymm
  · simp only [max_le_iff]
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩
  · refine (Finset.fold_max_le _).2 ⟨bot_le, fun e _ => ?_⟩
    fin_cases e <;> simp

/-- The pattern of minus infinity. -/
theorem ofBits_bot : Ideal.ofBits .f32 4286578688#32 = ⊥ := by
  simp [Ideal.ofBits, Ideal.ieee]
/-- The stored format's pattern of one. -/
theorem ofBits_one : Ideal.ofBits .fp8e4m3 56#8 = 1 := by
  simp [Ideal.ofBits, Ideal.e4m3fn, -EReal.coe_mul]; norm_num

end Cert.Spec

end
-- ==== Proof.Run.Scales.lean ====
/- The scales of the activations, element by element. -/
module

public import proofs.«01_k».proof.Proof.Run.ChunkRun
public import proofs.«01_k».proof.Proof.Run.Spec
public import Idealize.ShloMosaic.Lib.Pointwise
public import Idealize.ShloMosaic.Lib.Pipeline.ReadBack
public import Idealize.ShloMosaic.PureOps.Ideal.Laws
@[expose] public section
set_option maxRecDepth 16384
noncomputable section
namespace Cert.KernelIdeal.Run
open Cert.KernelIdeal Cert.KernelIdeal.Gen
open Idealize.ShloMosaic Idealize.ShloMosaic.TcCoe Idealize.ShloMosaic.Tactic

variable {F : FTy → Type} [FloatOps F]

/-- A load through a box inside the rectangle stored last reads that store's payload. -/
theorem readCov_within {s : Shape} {e : EltTy} {sp : Space} (v : View sig .tc sp s e) (r : Rect s) (w : r.shape.Idx → Elt F e) (L : List (View.Piece (Elt F) s e))
    (lr : LoadRect r.shape) (h1 : ∀ a, r.stride a = 1) (x : (r.withinL lr h1).shape.Idx) : v.readCov (⟨r, w⟩ :: L) (r.withinL lr h1) x = w (lr.idx x) := by
  rw [View.readCov_eq_canon']
  exact (congrArg (View.canon _) (Rect.idx_withinL r lr h1 x)).trans (View.canon_cons_emb r w L (lr.idx x))

/-- The strided load of the half stored last, at an index. -/
theorem half_apply (v15 : View sig .tc .vmem S2x256x128 .f32) (o : ℕ) (inb) (w : Vec F S1x256x128 .f32) (L : List (View.Piece (Elt F) S2x256x128 .f32))
    (e g : Fin 16) (j : Fin 128) :
    half v15 o inb (⟨Rect.unit (s := S2x256x128) ![o, 0, 0] S1x256x128.size inb, w⟩ :: L) e (ix2 g j) = w (ix3 0 ⟨e.val + 16 * g.val, by omega⟩ j) := by
  show v15.readCov _ _ (Shape.reshapeEquiv _ (ix2 g j)) = _
  refine (readCov_within v15 (Rect.unit (s := S2x256x128) ![o, 0, 0] S1x256x128.size inb) w L _ _ _).trans (congrArg w ?_)
  have hx : Shape.reshapeEquiv ((sBox e).numel_consLift ![1, 256, 128] rfl (by decide)) (ix2 g j) = Fin.cons ⟨0, Nat.one_pos⟩ (ix2 g j) :=
    Shape.reshapeEquiv_cons_one (d := (sBox e).size) _ _
  refine (congrArg _ hx).trans ?_
  funext a; refine Fin.ext ?_
  match a with
  | ⟨0, _⟩ => rfl
  | ⟨1, _⟩ => rfl
  | ⟨2, _⟩ => show 0 + 1 * j.val = j.val; omega

/-- A load of a buffer held at `x`. -/
theorem readAt_unread {sp : Space} {s : Shape} {e : EltTy} {a : Memref sig .tc sp s e} (ha : a.IsWhole) (x : Vec F s e) (r : Rect s) :
    View.readAt (Elt F) a.view r.toLoadRect (ha.unread x) = View.ld x r := by
  rw [View.readAt_eq_ld, ha.read_unread]

/-- The stored scales at an index. -/
theorem pay17_apply (a : FVec Ideal S16x256 .f32) (g : Fin 16) (i : Fin 256) :
    k0_pay17 a (ix2 g i) = Cert.Spec.scaleOf (a (ix2 g i)) := by
  pointwise [k0_pay17, k0_pay14]
  rfl

/-- A row above a slab is outside it. -/
theorem bR_not_mem (k : Fin 12) (r : Fin 192) (i : Fin 256) (h : r.val < 16 * k.val) : (ix2 r i : S192x256.Idx) ∉ (bR k).set := by
  unfold bR
  rw [Rect.mem_set_unit]
  intro hh
  have h2 : 16 * k.val ≤ r.val := (hh 0).1
  omega

/-- The scales transposed. -/
theorem pay649_apply (a : FVec Ideal S192x256 .f32) (g : Fin 192) (i : Fin 256) :
    @Eq EReal (k0_pay649 (F := Ideal) a (ix2 i g)) (a (ix2 g i)) := by
  pointwise [k0_pay649]
/-- The first half of a transposed chunk at an index. -/
theorem k5_apply  (xc : Vec Ideal S256x256 .bf16) (sc) (e : Fin 256) (j : Fin 128) :
    k0_pay5 xc sc (ix3 0 e j) = xc (ix2 ⟨j.val, by omega⟩ e) * sc (ix2 0 e) := by
  pointwise [k0_pay5, k0_pay4, k0_pay2]
/-- The second half of a transposed chunk at an index. -/
theorem k10_apply  (xc : Vec Ideal S256x256 .bf16) (sc) (e : Fin 256) (j : Fin 128) :
    k0_pay10 (cXT xc sc) (ix3 0 e j) = xc (ix2 ⟨128 + j.val, by omega⟩ e) * sc (ix2 0 e) := by
  pointwise [k0_pay10, cXT, k0_pay4, k0_pay2]

/-- The elements of a group, read from the first half of a chunk. -/
theorem halfA_apply (v15 : View sig .tc .vmem S2x256x128 .f32) (L2) (xc : Vec Ideal S256x256 .bf16) (sc) (e g : Fin 16) (j : Fin 128) :
    half v15 0 inb_S2x256x128_S1x256x128_0_0_0 (hA L2 xc sc) e (ix2 g j)
      = xc (ix2 ⟨j.val, by omega⟩ ⟨e.val + 16 * g.val, by omega⟩) * sc (ix2 0 ⟨e.val + 16 * g.val, by omega⟩) :=
  (half_apply v15 0 _ (k0_pay5 xc sc) L2 e g j).trans (k5_apply xc sc _ j)

/-- The elements of a group, read from the second half of a chunk. -/
theorem halfB_apply (v15 : View sig .tc .vmem S2x256x128 .f32) (L2) (xc : Vec Ideal S256x256 .bf16) (sc) (e g : Fin 16) (j : Fin 128) :
    half v15 1 inb_S2x256x128_S1x256x128_1_0_0 (hB L2 xc sc) e (ix2 g j)
      = xc (ix2 ⟨128 + j.val, by omega⟩ ⟨e.val + 16 * g.val, by omega⟩) * sc (ix2 0 ⟨e.val + 16 * g.val, by omega⟩) :=
  (half_apply v15 1 _ (k0_pay10 (cXT xc sc)) (hA L2 xc sc) e g j).trans (k10_apply xc sc _ j)

/-- The group maximum of a half is the largest absolute value of its sixteen elements. -/
theorem cHalf_apply (w : Fin 16 → FVec Ideal S16x128 .f32) (g : Fin 16) (j : Fin 128) :
    cHalf w (ix2 g j) = Cert.Spec.amax fun e => w e (ix2 g j) := by
  pointwise [cHalf]
  exact Cert.Spec.fold16 fun e => max (w e (ix2 g j)) (-(w e (ix2 g j)))

/-- The quotient a chunk stores per group and row. -/
theorem aR_apply (v15 : View sig .tc .vmem S2x256x128 .f32) (L2) (xg : EReal) (xc : Vec Ideal S256x256 .bf16) (sc) (g : Fin 16) (i : Fin 256) :
    aR (F := Ideal) v15 L2 xg xc sc (ix2 g i) = Ideal.div (Cert.Spec.amax fun e => xc (ix2 i ⟨e.val + 16 * g.val, by omega⟩) * sc (ix2 0 ⟨e.val + 16 * g.val, by omega⟩))
      (Ideal.ofBits .f32 1086324736#32 * xg) := by
  pointwise [aR, cAmax]
  congr 1
  split_ifs with h
  · rw [cHalf_apply]
    congr 1; funext e
    exact halfA_apply v15 L2 xc sc e g _
  · rw [cHalf_apply]
    congr 1; funext e
    refine (halfB_apply v15 L2 xc sc e g _).trans ?_
    congr 3
    exact Fin.ext (by show 128 + (i.val - 128) = i.val; omega)
  · exact absurd rfl ‹_›

/-- The rows of scales the first `n` chunks stored are `G`'s. -/
def L5ok (l : Lists Ideal) (n : ℕ) (G : Fin 192 → Fin 256 → EReal) : Prop :=
  ∀ (r : Fin 192) (i : Fin 256), r.val < 16 * n → View.canon (Val := Elt Ideal) l.L5 (ix2 r i) = G r i

/-- A chunk adds its sixteen rows of scales and keeps the earlier ones. -/
theorem step_L5 (v15 : View sig .tc .vmem S2x256x128 .f32) (v16 v17 : View sig .tc .vmem S16x256 .f32) (xg : EReal)
    (xc : Fin 12 → Vec Ideal S256x256 .bf16) (sc : Fin 12 → Vec Ideal S1x256 .f32) (l : Lists Ideal) (k : Fin 12) (G : Fin 192 → Fin 256 → EReal)
    (h : ∀ (g : Fin 16) (i : Fin 256), Cert.Spec.scaleOf (Ideal.div (Cert.Spec.amax fun e => xc k (ix2 i ⟨e.val + 16 * g.val, by omega⟩) * sc k (ix2 0 ⟨e.val + 16 * g.val, by omega⟩))
      (Ideal.ofBits .f32 1086324736#32 * xg)) = G ⟨16 * k.val + g.val, by omega⟩ i) (hl : L5ok l k.val G) :
    L5ok (step (F := Ideal) v15 v16 v17 xg xc sc l k) (k.val + 1) G := by
  intro r i hr
  show View.canon (Val := Elt Ideal) ((⟨bR k, k0_pay17 (aR (F := Ideal) v15 l.L2 xg (xc k) (sc k))⟩ : View.Piece (Elt Ideal) S192x256 .f32) :: l.L5) (ix2 r i) = G r i
  by_cases hk : r.val < 16 * k.val
  · have hn := bR_not_mem k r i hk
    exact (View.canon_cons_of_not_mem (Val := Elt Ideal) (⟨bR k, k0_pay17 (aR (F := Ideal) v15 l.L2 xg (xc k) (sc k))⟩ : View.Piece (Elt Ideal) S192x256 .f32) l.L5 hn).trans (hl r i hk)
  · have hy : (ix2 r i : S192x256.Idx) = (bR k).emb (ix2 (⟨r.val - 16 * k.val, by omega⟩ : Fin 16) i) := by
      funext a; refine Fin.ext ?_
      match a with
      | ⟨0, _⟩ => show r.val = 16 * k.val + 1 * (r.val - 16 * k.val); omega
      | ⟨1, _⟩ => show i.val = 0 + 1 * i.val; omega
    rw [hy]
    refine (View.canon_cons_emb (bR k) _ _ _).trans ?_
    rw [pay17_apply, aR_apply, h]
    congr 1
    exact Fin.ext (by show 16 * k.val + (r.val - 16 * k.val) = r.val; omega)

end Cert.KernelIdeal.Run

end
-- ==== Proof.Run.Code.lean ====
/- The code of a quotient, two ways: by the thresholds its magnitude passes, and by rounding. -/
module

public import Idealize.ShloMosaic.PureOps.Ideal
public import Idealize.ShloMosaic.Lib.KernelVsHost.DropoutScale

@[expose] public section

noncomputable section

namespace Cert.Code

open Idealize.ShloMosaic

/-- Rounding to an even integer from at most a half away. -/
theorem round_even (n : ℤ) (hn : Even n) {r : ℝ} (h1 : (n : ℝ) - 1 / 2 ≤ r) (h2 : r ≤ n + 1 / 2) : Ideal.roundHalfEven r = n := by
  unfold Ideal.roundHalfEven
  rcases lt_or_ge r n with h | h
  · have hf : ⌊r⌋ = n - 1 := by rw [Int.floor_eq_iff]; push_cast; constructor <;> linarith
    have : ¬ Even (n - 1) := by rw [Int.even_sub_one]; simpa using hn
    simp only [hf]; push_cast
    split_ifs with a b <;> first | omega | (exfalso; linarith)
  · have hf : ⌊r⌋ = n := by rw [Int.floor_eq_iff]; constructor <;> linarith
    simp only [hf]
    split_ifs with a b <;> first | rfl | (exfalso; linarith)

/-- Rounding to an integer from less than a half away. -/
theorem round_near (n : ℤ) {r : ℝ} (h1 : (n : ℝ) - 1 / 2 < r) (h2 : r < n + 1 / 2) : Ideal.roundHalfEven r = n := by
  unfold Ideal.roundHalfEven
  rcases lt_or_ge r n with h | h
  · have hf : ⌊r⌋ = n - 1 := by rw [Int.floor_eq_iff]; push_cast; constructor <;> linarith
    simp only [hf]; push_cast
    split_ifs with a b <;> first | omega | (exfalso; linarith)
  · have hf : ⌊r⌋ = n := by rw [Int.floor_eq_iff]; constructor <;> linarith
    simp only [hf]
    split_ifs with a b <;> first | rfl | (exfalso; linarith)

/-- The magnitude rounded to the values a code can stand for. -/
def mag (m : ℝ) : ℝ :=
  if m < 2 then Ideal.roundHalfEven (2 * m) / 2 else if m < 4 then Ideal.roundHalfEven m else 2 * Ideal.roundHalfEven (m / 2)

/-- The code of a rounded magnitude. -/
def idx (q : ℝ) : ℝ := if q < 2 then 2 * q else if q < 4 then q + 2 else q / 2 + 4

/-- The number of thresholds passed. -/
def cnt (m : ℝ) : ℕ :=
  (if 1 / 4 < m then 1 else 0) + (if 3 / 4 ≤ m then 1 else 0) + (if 5 / 4 < m then 1 else 0) + (if 7 / 4 ≤ m then 1 else 0)
    + (if 5 / 2 < m then 1 else 0) + (if 7 / 2 ≤ m then 1 else 0) + (if 5 < m then 1 else 0)

set_option maxHeartbeats 2000000 in
/-- The code of a magnitude is the number of thresholds it passes, and it is rounded to zero exactly when it passes none. -/
theorem idx_mag {m : ℝ} (h0 : 0 ≤ m) (h6 : m ≤ 6) : idx (mag m) = cnt m ∧ (0 < mag m ↔ 0 < cnt m) ∧ cnt m ≤ 7 := by
  have key : ∀ (q : ℝ) (n : ℕ), mag m = q → cnt m = n → idx q = n → (0 < q ↔ 0 < n) → n ≤ 7 →
      idx (mag m) = cnt m ∧ (0 < mag m ↔ 0 < cnt m) ∧ cnt m ≤ 7 := by
    intro q n h1 h2 h3 h4 h5; rw [h1, h2]; exact ⟨h3, h4, h5⟩
  have hc : ∀ n : ℕ, cnt m = n ↔ cnt m = n := fun _ => Iff.rfl
  rcases le_or_gt m (1 / 4) with h | a1
  · refine key 0 0 ?_ ?_ (by norm_num [idx]) (by norm_num) (by norm_num)
    · rw [mag, if_pos (by linarith), round_even 0 (by decide) (by push_cast; linarith) (by push_cast; linarith)]; norm_num
    · unfold cnt; split_ifs <;> first | rfl | (exfalso; linarith)
  rcases lt_or_ge m (3 / 4) with h | a2
  · refine key (1 / 2) 1 ?_ ?_ (by norm_num [idx]) (by norm_num) (by norm_num)
    · rw [mag, if_pos (by linarith), round_near 1 (by push_cast; linarith) (by push_cast; linarith)]; norm_num
    · unfold cnt; split_ifs <;> first | rfl | (exfalso; linarith)
  rcases le_or_gt m (5 / 4) with h | a3
  · refine key 1 2 ?_ ?_ (by norm_num [idx]) (by norm_num) (by norm_num)
    · rw [mag, if_pos (by linarith), round_even 2 (by decide) (by push_cast; linarith) (by push_cast; linarith)]; norm_num
    · unfold cnt; split_ifs <;> first | rfl | (exfalso; linarith)
  rcases lt_or_ge m (7 / 4) with h | a4
  · refine key (3 / 2) 3 ?_ ?_ (by norm_num [idx]) (by norm_num) (by norm_num)
    · rw [mag, if_pos (by linarith), round_near 3 (by push_cast; linarith) (by push_cast; linarith)]; norm_num
    · unfold cnt; split_ifs <;> first | rfl | (exfalso; linarith)
  rcases le_or_gt m (5 / 2) with h | a5
  · refine key 2 4 ?_ ?_ (by norm_num [idx]) (by norm_num) (by norm_num)
    · rw [mag]; split_ifs with b1 b2
      · rw [round_even 4 (by decide) (by push_cast; linarith) (by push_cast; linarith)]; norm_num
      · rw [round_even 2 (by decide) (by push_cast; linarith) (by push_cast; linarith)]; norm_num
      · exfalso; linarith
    · unfold cnt; split_ifs <;> first | rfl | (exfalso; linarith)
  rcases lt_or_ge m (7 / 2) with h | a6
  · refine key 3 5 ?_ ?_ (by norm_num [idx]) (by norm_num) (by norm_num)
    · rw [mag, if_neg (by linarith), if_pos (by linarith), round_near 3 (by push_cast; linarith) (by push_cast; linarith)]; norm_num
    · unfold cnt; split_ifs <;> first | rfl | (exfalso; linarith)
  rcases le_or_gt m 5 with h | a7
  · refine key 4 6 ?_ ?_ (by norm_num [idx]) (by norm_num) (by norm_num)
    · rw [mag, if_neg (by linarith)]; split_ifs with b2
      · rw [round_even 4 (by decide) (by push_cast; linarith) (by push_cast; linarith)]; norm_num
      · rw [round_even 2 (by decide) (by push_cast; linarith) (by push_cast; linarith)]; norm_num
    · unfold cnt; split_ifs <;> first | rfl | (exfalso; linarith)
  · refine key 6 7 ?_ ?_ (by norm_num [idx]) (by norm_num) (by norm_num)
    · rw [mag, if_neg (by linarith), if_neg (by linarith), round_near 3 (by push_cast; linarith) (by push_cast; linarith)]; norm_num
    · unfold cnt; split_ifs <;> first | rfl | (exfalso; linarith)

/-- Clipping to `[-6, 6]` and then taking the absolute value is taking it and clipping at 6. -/
theorem clip_abs (t : EReal) :
    ∃ r : ℝ, 0 ≤ r ∧ r ≤ 6 ∧ min (max t (-t)) ((6 : ℝ) : EReal) = r
      ∧ max (min ((6 : ℝ) : EReal) (max ((-6 : ℝ) : EReal) t)) (-(min ((6 : ℝ) : EReal) (max ((-6 : ℝ) : EReal) t))) = r := by
  induction t with
  | bot => exact ⟨6, by norm_num, le_refl _, by simp, by simp [← EReal.coe_neg]⟩
  | top => exact ⟨6, by norm_num, le_refl _, by simp, by simp [← EReal.coe_neg]⟩
  | coe x =>
    refine ⟨min |x| 6, le_min (abs_nonneg x) (by norm_num), min_le_right _ _, ?_, ?_⟩
    · rw [← EReal.coe_neg, abs_eq_max_neg]; push_cast; rfl
    · rw [← EReal.coe_strictMono.monotone.map_max, ← EReal.coe_strictMono.monotone.map_min, ← EReal.coe_neg, ← EReal.coe_strictMono.monotone.map_max, ← abs_eq_max_neg]
      refine congrArg _ ?_
      rcases le_or_gt x (-6) with h | h
      · rw [max_eq_left h, min_eq_right (by norm_num), min_eq_right (by rw [abs_of_nonpos (by linarith)]; linarith)]; norm_num
      · rw [max_eq_right h.le]
        rcases le_or_gt x 6 with h' | h'
        · rw [min_eq_right h', min_eq_left (abs_le.2 ⟨h.le, h'⟩)]
        · rw [min_eq_left h'.le, min_eq_right (by rw [abs_of_nonneg (by linarith)]; linarith)]; norm_num

end Cert.Code

end
-- ==== Proof.Run.Nibble.lean ====
/- Words of eight four-bit codes. -/
module

public import Idealize.ShloMosaic.PureOps
public import Mathlib.Tactic.IntervalCases
public import Mathlib.Tactic.FinCases
public import Mathlib.Tactic.Ring
public import Mathlib.Tactic.Linarith

@[expose] public section

namespace Cert.Nibble

open Idealize.ShloMosaic

/-- Eight codes side by side, the first the lowest. -/
def pack (n : Fin 8 → BitVec 4) : BitVec (4 + (4 + (4 + (4 + (4 + (4 + (4 + 4))))))) := n 7 ++ (n 6 ++ (n 5 ++ (n 4 ++ (n 3 ++ (n 2 ++ (n 1 ++ n 0))))))

/-- A bit of a word is a bit of one code. -/
theorem pack_bit (n : Fin 8 → BitVec 4) (i : ℕ) (h : i < 32) : (pack n).getLsbD i = (n ⟨i / 4, by omega⟩).getLsbD (i % 4) := by
  simp only [pack, BitVec.getLsbD_append]
  interval_cases i <;> rfl

/-- Eight codes shifted to their places and joined. -/
def word (c : Fin 8 → BitVec 32) : BitVec 32 :=
  c 0 ||| c 1 <<< 4 ||| c 2 <<< 8 ||| c 3 <<< 12 ||| c 4 <<< 16 ||| c 5 <<< 20 ||| c 6 <<< 24 ||| c 7 <<< 28

/-- Joining shifted codes puts them side by side. -/
theorem word_eq (n : Fin 8 → BitVec 4) : word (fun k => (n k).setWidth 32) = pack n := by
  apply BitVec.eq_of_getLsbD_eq
  intro i hi
  refine Eq.trans ?_ (pack_bit n i hi).symm
  unfold word
  simp only [BitVec.getLsbD_or, BitVec.getLsbD_shiftLeft, BitVec.getLsbD_setWidth]
  interval_cases i <;> simp

/-- A code with the sign of a zero cleared. -/
def clear (n : BitVec 4) : BitVec 4 := n &&& (((n &&& 7#4) + 7#4) ||| 7#4)

/-- A sum without a carry between two parts is the parts' sums. -/
theorem add_append {a b : ℕ} (x1 x2 : BitVec a) (y1 y2 : BitVec b) (h : y1.toNat + y2.toNat < 2 ^ b) : (x1 ++ y1) + (x2 ++ y2) = (x1 + x2) ++ (y1 + y2) := by
  apply BitVec.eq_of_toNat_eq
  have e : ∀ (u : BitVec a) (v : BitVec b), (u ++ v).toNat = u.toNat * 2 ^ b + v.toNat := fun u v => by
    rw [BitVec.toNat_append, ← Nat.shiftLeft_add_eq_or_of_lt v.isLt, Nat.shiftLeft_eq]
  rw [BitVec.toNat_add, e, e, e, BitVec.toNat_add, BitVec.toNat_add, Nat.mod_eq_of_lt h, pow_add]
  have h1 : x1.toNat * 2 ^ b + y1.toNat + (x2.toNat * 2 ^ b + y2.toNat) = (y1.toNat + y2.toNat) + 2 ^ b * (x1.toNat + x2.toNat) := by ring
  rw [h1, Nat.mul_comm (2 ^ a), Nat.mod_mul, Nat.add_mul_mod_self_left, Nat.mod_eq_of_lt h, Nat.add_mul_div_left _ _ (Nat.two_pow_pos b), Nat.div_eq_of_lt h]
  ring_nf

/-- The three low bits of a code, and seven, carry nothing. -/
theorem low_add (n : BitVec 4) : (n &&& 7#4).toNat + (7#4).toNat < 2 ^ 4 := by
  revert n; decide

/-- No carry between two parts that carry nothing. -/
theorem carry_append {a b : ℕ} (x1 x2 : BitVec a) (y1 y2 : BitVec b) (hx : x1.toNat + x2.toNat < 2 ^ a) (h : y1.toNat + y2.toNat < 2 ^ b) :
    (x1 ++ y1).toNat + (x2 ++ y2).toNat < 2 ^ (a + b) := by
  have e : ∀ (u : BitVec a) (v : BitVec b), (u ++ v).toNat = u.toNat * 2 ^ b + v.toNat := fun u v => by
    rw [BitVec.toNat_append, ← Nat.shiftLeft_add_eq_or_of_lt v.isLt, Nat.shiftLeft_eq]
  rw [e, e, pow_add]
  have : (x1.toNat + x2.toNat + 1) * 2 ^ b ≤ 2 ^ a * 2 ^ b := Nat.mul_le_mul_right _ hx
  nlinarith

/-- Clearing the signs of a word's zeros clears each code's. -/
theorem clear_pack (n : Fin 8 → BitVec 4) :
    (pack n : BitVec 32) &&& ((((pack n : BitVec 32) &&& 2004318071#32) + 2004318071#32) ||| 2004318071#32) = pack fun k => clear (n k) := by
  have h7 : (2004318071#32 : BitVec 32) = pack fun _ => 7#4 := by decide
  rw [h7]
  show pack n &&& (((pack n &&& pack fun _ => 7#4) + pack fun _ => 7#4) ||| pack fun _ => 7#4) = pack fun k => clear (n k)
  unfold pack
  simp only [BitVec.and_append]
  rw [add_append, add_append, add_append, add_append, add_append, add_append, add_append]
  · simp only [BitVec.or_append, BitVec.and_append]; rfl
  all_goals repeat first | exact low_add _ | refine carry_append _ _ _ _ (low_add _) ?_

/-- A byte of a word holds two codes. -/
theorem byte_pack (n : Fin 8 → BitVec 4) (b : Fin 4) :
    (pack n : BitVec 32).extractLsb' (8 * b.val) 8 = (n ⟨2 * b.val + 1, by omega⟩ ++ n ⟨2 * b.val, by omega⟩ : BitVec (4 + 4)) := by
  apply BitVec.eq_of_getLsbD_eq
  intro i hi
  rw [BitVec.getLsbD_extractLsb', BitVec.getLsbD_append]
  refine (congrArg (_ && ·) (pack_bit n (8 * b.val + i) (by omega))).trans ?_
  fin_cases b <;> interval_cases i <;> rfl

/-- Two codes joined in a byte. -/
theorem join (a b : BitVec 4) : (a.setWidth 8 : BitVec 8) ||| (b.setWidth 8 <<< 4) = (b ++ a : BitVec (4 + 4)) := by
  apply BitVec.eq_of_getLsbD_eq
  intro i hi
  rw [BitVec.getLsbD_append]
  simp only [BitVec.getLsbD_or, BitVec.getLsbD_shiftLeft, BitVec.getLsbD_setWidth]
  interval_cases i <;> simp

end Cert.Nibble

end
-- ==== Proof.Run.CodeK.lean ====
/- A code two ways over the extended reals: from the thresholds passed, and from the rounded magnitude. -/
module

public import proofs.«01_k».proof.Proof.Run.Code
public import proofs.«01_k».proof.Proof.Run.Nibble
public import Idealize.ShloMosaic.PureOps.Ideal
public import Idealize.ShloMosaic.PureOps.Ideal.Laws

@[expose] public section

noncomputable section

namespace Cert.Code

open Idealize.ShloMosaic Cert.Nibble

/-- The kernel's code of a clipped quotient. -/
def kcode (t : EReal) : BitVec 32 :=
  IntOp.ori (IntOp.addi (IntOp.addi (IntOp.addi (IntOp.addi (IntOp.addi (IntOp.addi
    (BitVec.setWidth 32 (BitVec.ofBool (decide (Ideal.ofBits .f32 1048576000#32 < max t (-t)))))
    (BitVec.setWidth 32 (BitVec.ofBool (decide (Ideal.ofBits .f32 1061158912#32 ≤ max t (-t))))))
    (BitVec.setWidth 32 (BitVec.ofBool (decide (Ideal.ofBits .f32 1067450368#32 < max t (-t))))))
    (BitVec.setWidth 32 (BitVec.ofBool (decide (Ideal.ofBits .f32 1071644672#32 ≤ max t (-t))))))
    (BitVec.setWidth 32 (BitVec.ofBool (decide (Ideal.ofBits .f32 1075838976#32 < max t (-t))))))
    (BitVec.setWidth 32 (BitVec.ofBool (decide (Ideal.ofBits .f32 1080033280#32 ≤ max t (-t))))))
    (BitVec.setWidth 32 (BitVec.ofBool (decide (Ideal.ofBits .f32 1084227584#32 < max t (-t))))))
    (IntOp.shli .vector (BitVec.setWidth 32 (BitVec.ofBool (decide (t < 0)))) 3#32)

/-- A magnitude rounded to the values a code can stand for. -/
def rmag (m : EReal) : EReal :=
  if m < Ideal.ofBits .f32 1073741824#32 then Ideal.div (Ideal.liftRound Ideal.roundHalfEven (Ideal.ofBits .f32 1073741824#32 * m)) (Ideal.ofBits .f32 1073741824#32)
  else if m < Ideal.ofBits .f32 1082130432#32 then Ideal.liftRound Ideal.roundHalfEven m
  else Ideal.ofBits .f32 1073741824#32 * Ideal.liftRound Ideal.roundHalfEven (Ideal.div m (Ideal.ofBits .f32 1073741824#32))

/-- The index of a rounded magnitude. -/
def ridx (q : EReal) : EReal :=
  if q < Ideal.ofBits .f32 1073741824#32 then Ideal.ofBits .f32 1073741824#32 * q
  else if q < Ideal.ofBits .f32 1082130432#32 then q + Ideal.ofBits .f32 1073741824#32
  else Ideal.div q (Ideal.ofBits .f32 1073741824#32) + Ideal.ofBits .f32 1082130432#32

/-- The reference's code of a quotient `t` whose clipped magnitude is `m`. -/
def rcode (t m : EReal) : BitVec 8 :=
  Scalar.select (IntOp.andi (BitVec.ofBool (decide (t < 0))) (BitVec.ofBool (decide (0 < rmag m))))
    (IntOp.ori (Ideal.fptoui 8 (ridx (rmag m))) 8#8) (Ideal.fptoui 8 (ridx (rmag m)))

/-- The code of a quotient: the thresholds its clipped magnitude passes, and its sign. -/
def nib (t : EReal) : BitVec 4 := BitVec.ofNat 4 (cnt (min (max t (-t)) ((6 : ℝ) : EReal)).toReal + if t < 0 then 8 else 0)

theorem c025 : Ideal.ofBits .f32 1048576000#32 = ((1 / 4 : ℝ) : EReal) := by simp [Ideal.ofBits, Ideal.ieee, -EReal.coe_mul]; norm_num
theorem c075 : Ideal.ofBits .f32 1061158912#32 = ((3 / 4 : ℝ) : EReal) := by simp [Ideal.ofBits, Ideal.ieee, -EReal.coe_mul]; norm_num
theorem c125 : Ideal.ofBits .f32 1067450368#32 = ((5 / 4 : ℝ) : EReal) := by simp [Ideal.ofBits, Ideal.ieee, -EReal.coe_mul]; norm_num
theorem c175 : Ideal.ofBits .f32 1071644672#32 = ((7 / 4 : ℝ) : EReal) := by simp [Ideal.ofBits, Ideal.ieee, -EReal.coe_mul]; norm_num
theorem c250 : Ideal.ofBits .f32 1075838976#32 = ((5 / 2 : ℝ) : EReal) := by simp [Ideal.ofBits, Ideal.ieee, -EReal.coe_mul]; norm_num
theorem c350 : Ideal.ofBits .f32 1080033280#32 = ((7 / 2 : ℝ) : EReal) := by simp [Ideal.ofBits, Ideal.ieee, -EReal.coe_mul]; norm_num
theorem c500 : Ideal.ofBits .f32 1084227584#32 = ((5 : ℝ) : EReal) := by simp [Ideal.ofBits, Ideal.ieee, -EReal.coe_mul]; norm_num
theorem c600 : Ideal.ofBits .f32 1086324736#32 = ((6 : ℝ) : EReal) := by simp [Ideal.ofBits, Ideal.ieee, -EReal.coe_mul]; norm_num
theorem cm600 : Ideal.ofBits .f32 3233808384#32 = ((-6 : ℝ) : EReal) := by simp [Ideal.ofBits, Ideal.ieee, -EReal.coe_mul]; norm_num
theorem c200 : Ideal.ofBits .f32 1073741824#32 = ((2 : ℝ) : EReal) := by simp [Ideal.ofBits, Ideal.ieee, -EReal.coe_mul]; norm_num
theorem c400 : Ideal.ofBits .f32 1082130432#32 = ((4 : ℝ) : EReal) := by simp [Ideal.ofBits, Ideal.ieee, -EReal.coe_mul]; norm_num

/-- Seven flags counted, and a sign. -/
theorem count_bits : ∀ b1 b2 b3 b4 b5 b6 b7 s : Bool,
    IntOp.ori (IntOp.addi (IntOp.addi (IntOp.addi (IntOp.addi (IntOp.addi (IntOp.addi (BitVec.setWidth 32 (BitVec.ofBool b1)) (BitVec.setWidth 32 (BitVec.ofBool b2))) (BitVec.setWidth 32 (BitVec.ofBool b3)))
      (BitVec.setWidth 32 (BitVec.ofBool b4))) (BitVec.setWidth 32 (BitVec.ofBool b5))) (BitVec.setWidth 32 (BitVec.ofBool b6))) (BitVec.setWidth 32 (BitVec.ofBool b7)))
      (IntOp.shli .vector (BitVec.setWidth 32 (BitVec.ofBool s)) 3#32)
    = (BitVec.ofNat 4 ((if b1 = true then 1 else 0) + (if b2 = true then 1 else 0) + (if b3 = true then 1 else 0) + (if b4 = true then 1 else 0) + (if b5 = true then 1 else 0) + (if b6 = true then 1 else 0) + (if b7 = true then 1 else 0) + if s = true then 8 else 0)).setWidth 32 := by
  decide

/-- Clipping keeps the sign. -/
theorem clip_neg (t : EReal) : min ((6 : ℝ) : EReal) (max ((-6 : ℝ) : EReal) t) < 0 ↔ t < 0 := by
  have h6 : ¬ ((6 : ℝ) : EReal) < 0 := by rw [← EReal.coe_zero, EReal.coe_lt_coe_iff]; norm_num
  have hm : ((-6 : ℝ) : EReal) < 0 := by rw [← EReal.coe_zero, EReal.coe_lt_coe_iff]; norm_num
  rw [min_lt_iff, max_lt_iff]
  exact ⟨fun h => h.elim (fun a => absurd a h6) (fun a => a.2), fun h => Or.inr ⟨hm, h⟩⟩

/-- The kernel's code of the clipped quotient. -/
theorem kcode_eq (t : EReal) : kcode (min ((6 : ℝ) : EReal) (max ((-6 : ℝ) : EReal) t)) = (nib t).setWidth 32 := by
  obtain ⟨r, h0, h6, h1, h2⟩ := clip_abs t
  unfold kcode nib
  rw [h2, h1, c025, c075, c125, c175, c250, c350, c500, EReal.toReal_coe]
  simp only [EReal.coe_lt_coe_iff, EReal.coe_le_coe_iff, clip_neg]
  rw [count_bits]
  simp only [decide_eq_true_eq]
  rfl

/-- The rounded magnitude is a real's. -/
theorem rmag_coe (r : ℝ) : rmag (r : EReal) = ((mag r : ℝ) : EReal) := by
  unfold rmag mag
  rw [c200, c400]
  simp only [EReal.coe_lt_coe_iff, ← EReal.coe_mul, Ideal.div_coe (two_ne_zero)]
  split_ifs
  · show ((Ideal.roundHalfEven (2 * r) : ℝ) : EReal) * ((1 / 2 : ℝ) : EReal) = _
    rw [← EReal.coe_mul]; congr 1; ring
  · rfl
  · show ((2 : ℝ) : EReal) * ((Ideal.roundHalfEven (r * (1 / 2)) : ℝ) : EReal) = _
    rw [← EReal.coe_mul]; congr 3; ring_nf

/-- The index is a real's. -/
theorem ridx_coe (q : ℝ) : ridx (q : EReal) = ((idx q : ℝ) : EReal) := by
  unfold ridx idx
  rw [c200, c400]
  simp only [EReal.coe_lt_coe_iff, ← EReal.coe_mul, Ideal.div_coe (two_ne_zero), ← EReal.coe_add]
  split_ifs
  · rfl
  · rfl
  · congr 2; ring

/-- A small number as a byte. -/
theorem fptoui_nat (n : ℕ) (h : n ≤ 7) : Ideal.fptoui 8 (((n : ℝ)) : EReal) = BitVec.ofNat 8 n := by
  show BitVec.ofInt 8 (max 0 (min ((2 ^ 8 : ℕ) - 1) (if 0 ≤ (n : ℝ) then ⌊(n : ℝ)⌋ else ⌈(n : ℝ)⌉))) = _
  rw [if_pos (Nat.cast_nonneg n), Int.floor_natCast]
  interval_cases n <;> rfl

/-- A code's sign put in the two ways. -/
theorem sign_byte : ∀ (n : Fin 8) (s : Bool),
    Scalar.select (IntOp.andi (BitVec.ofBool s) (BitVec.ofBool (decide (0 < n.val)))) (IntOp.ori (BitVec.ofNat 8 n.val) 8#8) (BitVec.ofNat 8 n.val)
      = (clear (BitVec.ofNat 4 (n.val + if s = true then 8 else 0))).setWidth 8 := by
  decide

/-- The reference's code of a quotient. -/
theorem rcode_eq (t : EReal) : rcode t (min (max t (-t)) ((6 : ℝ) : EReal)) = (clear (nib t)).setWidth 8 := by
  obtain ⟨r, h0, h6, h1, -⟩ := clip_abs t
  obtain ⟨hi, hp, h7⟩ := idx_mag h0 h6
  unfold rcode nib
  rw [h1, rmag_coe, ridx_coe, hi, EReal.toReal_coe, fptoui_nat _ h7]
  have hpos : ((0 : EReal) < ((mag r : ℝ) : EReal)) ↔ 0 < cnt r := by rw [← EReal.coe_zero, EReal.coe_lt_coe_iff]; exact hp
  simp only [hpos]
  have := sign_byte ⟨cnt r, by omega⟩ (decide (t < 0))
  simp only [decide_eq_true_eq] at this
  exact this

end Cert.Code

end
-- ==== Proof.Run.Byte.lean ====
/- The mathematics of the packed codes: two codes of four bits a byte. -/
module

public import proofs.«01_k».proof.Proof.Run.Spec
public import proofs.«01_k».proof.Proof.Run.CodeK

@[expose] public section

noncomputable section

namespace Cert.Spec

open Idealize.ShloMosaic Cert.Nibble Cert.Code

/-- The byte of two quotients' codes, the first in the low half; a code of minus zero is that of zero. -/
def byteOf (lo hi : EReal) : BitVec 8 := clear (nib hi) ++ clear (nib lo)

/-- An activation over its group's scale and the global scale. -/
def quot (X : (⟨2, ![256, 3072]⟩ : Shape).Idx → EReal) (S : (⟨2, ![1, 3072]⟩ : Shape).Idx → EReal) (xg : EReal) (i : Fin 256) (d : Fin 3072) : EReal :=
  Ideal.div (xs X S i d) (scale X S xg i ⟨d.val / 16, by omega⟩ * xg)

/-- The packed codes of row `i`'s pair `r`. -/
def byte (X : (⟨2, ![256, 3072]⟩ : Shape).Idx → EReal) (S : (⟨2, ![1, 3072]⟩ : Shape).Idx → EReal) (xg : EReal) (i : Fin 256) (r : Fin 1536) : BitVec 8 :=
  byteOf (quot X S xg i ⟨2 * r.val, by omega⟩) (quot X S xg i ⟨2 * r.val + 1, by omega⟩)

end Cert.Spec

end
-- ==== Proof.Run.Words.lean ====
/- The packed codes of a chunk, element by element. -/
module

public import proofs.«01_k».proof.Proof.Run.Chunk
public import proofs.«01_k».proof.Proof.Run.CodeK
public import Idealize.ShloMosaic.Lib.Pointwise
public import Idealize.ShloMosaic.Lib.BitcastPair
@[expose] public section
set_option maxRecDepth 16384
noncomputable section
namespace Cert.KernelIdeal.Run
open Cert.KernelIdeal Cert.KernelIdeal.Gen
open Idealize.ShloMosaic Idealize.ShloMosaic.TcCoe Idealize.ShloMosaic.Tactic
open Cert.Nibble Cert.Code

/-- The four bytes of a word, the lowest first, as rows. -/
theorem bytes_apply (w : S32x256.Idx → BitVec 32) (h : _) (j : Fin 128) (i : Fin 256) :
    bitcast S128x256 8 w h (ix2 j i) = (w (ix2 ⟨j.val / 4, by omega⟩ i)).extractLsb' (8 * (j.val % 4)) 8 := by
  apply BitVec.eq_of_getLsbD_eq
  intro q hq
  rw [bitcast_getLsbD w h _ q hq (by decide), BitVec.getLsbD_extractLsb']
  have hr : S128x256.row (ix2 j i) = j.val := rfl
  rw [show (S128x256.row (ix2 j i) * 8 + q) % 32 = 8 * (j.val % 4) + q by rw [hr]; omega]
  simp only [hq, decide_true, Bool.true_and]
  congr 2
  funext c
  match c with
  | ⟨0, _⟩ => exact Fin.ext ((h.srcIdx_row _ _ _ ⟨0, Nat.zero_lt_two⟩ rfl).trans (by show (j.val * 8 + q) / 32 = j.val / 4; omega))
  | ⟨1, _⟩ => exact Fin.ext (h.srcIdx_other _ _ _ ⟨1, Nat.one_lt_two⟩ (by show ¬ 1 + 2 = 2; omega))

/-- A chunk's codes at an index. -/
theorem pay35_apply (t : FVec Ideal S256x256 .f32) (p : Fin 32) (k : Fin 8) (i : Fin 256) :
    k0_pay35 t (absf t) (cCnt t) k0_pay34 (ix3 p k i) = kcode (t (ix2 ⟨8 * p.val + k.val, by omega⟩ i)) := by
  have h : (⟨8 * p.val + k.val, by omega⟩ : Fin 256) = ⟨p.val * 8 + k.val, by omega⟩ := Fin.ext (by show 8 * p.val + k.val = p.val * 8 + k.val; omega)
  rw [h]
  pointwise [k0_pay35, k0_pay34, cCnt]
  rfl

/-- The words of eight codes at an index. -/
theorem word_apply (t : FVec Ideal S256x256 .f32) (p : Fin 32) (i : Fin 256) :
    IntOp.ori (cWordA t (ix2 p i)) (cWordB t (ix2 p i)) = word fun k => kcode (t (ix2 ⟨8 * p.val + k.val, by omega⟩ i)) := by
  have h := fun k => (pay35_apply t p k i).symm
  simp only [h]
  unfold cWordA cWordB k0_pay36 k0_pay37
  generalize k0_pay35 t (absf t) (cCnt t) k0_pay34 = f
  pointwise
  rfl

/-- The packed codes of a chunk at an index, of the clipped quotients. -/
theorem cXP_apply (t u : FVec Ideal S256x256 .f32) (h : ∀ d i, t (ix2 d i) = min ((6 : ℝ) : EReal) (max ((-6 : ℝ) : EReal) (u (ix2 d i)))) (i : Fin 256) (j : Fin 128) :
    cXP t (ix2 i j) = clear (nib (u (ix2 ⟨2 * j.val + 1, by omega⟩ i))) ++ clear (nib (u (ix2 ⟨2 * j.val, by omega⟩ i))) := by
  have e : cXP t (ix2 i j) = bitcast S128x256 8 (fun y => IntOp.andi (IntOp.ori (cWordA t y) (cWordB t y)) (IntOp.ori (IntOp.addi (IntOp.andi (IntOp.ori (cWordA t y) (cWordB t y)) 2004318071#32) 2004318071#32) 2004318071#32))
      bitcasts_S32x256_w32_S128x256_w8 (ix2 j i) := by
    unfold cXP k0_pay39 k0_pay38
    pointwise
    rfl
  rw [e, bytes_apply]
  rw [word_apply]
  simp only [h, kcode_eq]
  rw [word_eq]
  refine (congrArg (BitVec.extractLsb' (8 * (j.val % 4)) 8) (clear_pack _)).trans ?_
  refine (byte_pack _ ⟨j.val % 4, by omega⟩).trans ?_
  have h1 : (⟨8 * (j.val / 4) + (2 * (j.val % 4) + 1), by omega⟩ : Fin 256) = ⟨2 * j.val + 1, by omega⟩ := Fin.ext (by show 8 * (j.val / 4) + (2 * (j.val % 4) + 1) = 2 * j.val + 1; omega)
  have h0 : (⟨8 * (j.val / 4) + 2 * (j.val % 4), by omega⟩ : Fin 256) = ⟨2 * j.val, by omega⟩ := Fin.ext (by show 8 * (j.val / 4) + 2 * (j.val % 4) = 2 * j.val; omega)
  exact congrArg₂ (fun a b => clear (nib (u (ix2 a i))) ++ clear (nib (u (ix2 b i)))) h1 h0

end Cert.KernelIdeal.Run

end
-- ==== Proof.Run.ScaleValue.lean ====
/- What the first point leaves of the scales. -/
module

public import proofs.«01_k».proof.Proof.Run.Scales
public import proofs.«01_k».proof.Proof.Run.Outs
@[expose] public section
set_option maxRecDepth 16384
noncomputable section
namespace Cert.KernelIdeal.Run
open Cert.KernelIdeal Cert.KernelIdeal.Gen
open Idealize.ShloMosaic Idealize.ShloMosaic.TcCoe Idealize.ShloMosaic.Tactic

/-- The only index of a vector of one element. -/
theorem idx_S1 (j : S1.Idx) : j = ix1 0 := by
  funext a; fin_cases a; exact Fin.ext (by have h : (j 0).val < 1 := (j 0).isLt; show (j 0).val = 0; omega)

/-- The global scale, as loaded. -/
theorem xgOf_eq {F : FTy → Type} [FloatOps F] (arg1 : Memref sig .tc .smem S1 .f32) (harg1 : arg1.IsWhole) (x0 : Vec F S1 .f32) : xgOf arg1 harg1 x0 = x0 (ix1 0) := by
  unfold xgOf
  rw [readAt_unread]
  exact congrArg x0 (idx_S1 _)

/-- A chunk of the activations at an index. -/
theorem xcOf_apply {F : FTy → Type} [FloatOps F] (arg3 : Memref sig .tc .vmem S256x3072 .bf16) (harg3 : arg3.IsWhole) (x2 : Vec F S256x3072 .bf16) (k : Fin 12) (i e : Fin 256) :
    xcOf arg3 harg3 x2 k (ix2 i e) = x2 (ix2 i ⟨256 * k.val + e.val, by omega⟩) := by
  unfold xcOf
  rw [readAt_unread]
  refine congrArg x2 ?_
  funext a; refine Fin.ext ?_
  match a with
  | ⟨0, _⟩ => show 0 + 1 * i.val = i.val; omega
  | ⟨1, _⟩ => show 256 * k.val + 1 * e.val = 256 * k.val + e.val; omega

/-- A chunk of the smoothing factors at an index. -/
theorem scOf_apply {F : FTy → Type} [FloatOps F] (arg4 : Memref sig .tc .vmem S1x3072 .f32) (harg4 : arg4.IsWhole) (x3 : Vec F S1x3072 .f32) (k : Fin 12) (e : Fin 256) :
    scOf arg4 harg4 x3 k (ix2 0 e) = x3 (ix2 0 ⟨256 * k.val + e.val, by omega⟩) := by
  unfold scOf
  rw [readAt_unread]
  refine congrArg x3 ?_
  funext a; refine Fin.ext ?_
  match a with
  | ⟨0, _⟩ => rfl
  | ⟨1, _⟩ => show 256 * k.val + 1 * e.val = 256 * k.val + e.val; omega

/-- What a chunk's scales are of the whole. -/
theorem chunk_scale (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (x0 : Vec Ideal S1 .f32) (x2 : Vec Ideal S256x3072 .bf16) (x3 : Vec Ideal S1x3072 .f32) (k : Fin 12) (g : Fin 16) (i : Fin 256) :
    Cert.Spec.scaleOf (Ideal.div (Cert.Spec.amax fun e => xcOf arg3 harg3 x2 k (ix2 i ⟨e.val + 16 * g.val, by omega⟩) * scOf arg4 harg4 x3 k (ix2 0 ⟨e.val + 16 * g.val, by omega⟩))
      (Ideal.ofBits .f32 1086324736#32 * xgOf arg1 harg1 x0)) = Cert.Spec.scale x2 x3 (x0 (ix1 0)) i ⟨16 * k.val + g.val, by omega⟩ := by
  unfold Cert.Spec.scale Cert.Spec.xs
  rw [xgOf_eq]
  congr 2
  congr 1
  funext e
  rw [xcOf_apply, scOf_apply]
  have h : (⟨256 * k.val + (e.val + 16 * g.val), by omega⟩ : Fin 3072) = ⟨16 * (16 * k.val + g.val) + e.val, by omega⟩ := Fin.ext (by show 256 * k.val + (e.val + 16 * g.val) = 16 * (16 * k.val + g.val) + e.val; omega)
  exact congrArg₂ (· * ·) (congrArg (fun d => x2 (ix2 i d)) h) (congrArg (fun d => x3 (ix2 0 d)) h)

/-- The scales the twelve chunks store. -/
theorem lists_L5 (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (arg15 : Memref sig .tc .vmem S2x256x128 .f32) (arg16 arg17 : Memref sig .tc .vmem S16x256 .f32)
    (x0 : Vec Ideal S1 .f32) (x2 : Vec Ideal S256x3072 .bf16) (x3 : Vec Ideal S1x3072 .f32) :
    L5ok (lists arg1 harg1 arg3 harg3 arg4 harg4 arg15 arg16 arg17 x0 x2 x3) 12 fun r i => Cert.Spec.scale x2 x3 (x0 (ix1 0)) i r := by
  have s := fun (k : Fin 12) (l : Lists Ideal) (hl) => step_L5 arg15.view arg16.view arg17.view (xgOf arg1 harg1 x0) (xcOf arg3 harg3 x2) (scOf arg4 harg4 x3) l k
    (fun r i => Cert.Spec.scale x2 x3 (x0 (ix1 0)) i r) (fun g i => chunk_scale arg1 harg1 arg3 harg3 arg4 harg4 x0 x2 x3 k g i) hl
  exact s 11 _ (s 10 _ (s 9 _ (s 8 _ (s 7 _ (s 6 _ (s 5 _ (s 4 _ (s 3 _ (s 2 _ (s 1 _ (s 0 init fun r i h => absurd h (Nat.not_lt_zero _))))))))))))

section
variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec Ideal S1 .f32) (x1 : Vec Ideal S1 .f32) (x2 : Vec Ideal S256x3072 .bf16) (x3 : Vec Ideal S1x3072 .f32) (x4 : Vec Ideal S3072x32 .bf16) (x5 : Vec Ideal S1536x512 .i8) (x6 : Vec Ideal S192x512 .fp8e4m3) (x7 : Vec Ideal S32x512 .bf16) (x8 : Vec Ideal S1x512 .f32)
/-- What the first point leaves of the scales, element by element. -/
theorem out0_A_11_apply (hc0 : cond0_0 i) (y : Fin 256) (g : Fin 192) :
    @Eq EReal (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0 (ix2 y g)) (Cert.Spec.scale x2 x3 (x0 (ix1 0)) y g) := by
  unfold out0_A_11
  rw [View.read_writes_junk_eq_canon, runA_sc]
  have hz : (![0, 0] : Fin S256x192.rank → ℕ) = fun _ => 0 := by funext a; fin_cases a <;> rfl
  rw [View.canon_unit_zero hz]
  refine (pay649_apply _ g y).trans ?_
  rw [View.readCov_eq_canon']
  have hx : (Rect.unit (s := S192x256) ![0, 0] S192x256.size inb_S192x256_S192x256_0_0).toLoadRect.idx (ix2 g y) = (ix2 g y : S192x256.Idx) := by
    funext a; refine Fin.ext ?_
    match a with
    | ⟨0, _⟩ => show 0 + 1 * g.val = g.val; omega
    | ⟨1, _⟩ => show 0 + 1 * y.val = y.val; omega
  exact (congrArg (View.canon _) hx).trans (lists_L5 arg1 harg1 arg3 harg3 arg4 harg4 arg15 arg16 arg17 x0 x2 x3 g y g.isLt)
end

end Cert.KernelIdeal.Run

end
-- ==== Proof.Run.ByteValue.lean ====
/- The quotients of a chunk, element by element. -/
module

public import proofs.«01_k».proof.Proof.Run.Scales
public import proofs.«01_k».proof.Proof.Run.Byte
public import proofs.«01_k».proof.Proof.Run.Words
public import proofs.«01_k».proof.Proof.Run.ScaleValue
@[expose] public section
set_option maxRecDepth 16384
noncomputable section
namespace Cert.KernelIdeal.Run
open Cert.KernelIdeal Cert.KernelIdeal.Gen
open Idealize.ShloMosaic Idealize.ShloMosaic.TcCoe Idealize.ShloMosaic.Tactic

/-- Row `e` of slab `g` of sixteen slabs of sixteen rows. -/
theorem cat_apply {α : Type} (v : Fin 16 → S16x256.Idx → α) (g e : Fin 16) (i : Fin 256) :
    cat v concats256 (ix2 ⟨16 * g.val + e.val, by omega⟩ i) = v g (ix2 e i) := by
  refine concatenate_ofFn_apply (s₁ := S16x256) (t := S256x256) 0 v concats256 rfl 16 rfl _ g ?_ (ix2 e i) ?_ ?_
  · show (16 * g.val + e.val) / 16 = g.val
    omega
  · show e.val = (16 * g.val + e.val) % 16
    omega
  · intro b hb
    match b with
    | ⟨0, _⟩ => exact absurd rfl hb
    | ⟨1, _⟩ => rfl

/-- A quotient at an index. -/
theorem cQuot_apply (xt : FVec Ideal S256x256 .f32) (den : Fin 16 → Vec Ideal S1x256 .f32) (g e : Fin 16) (i : Fin 256) :
    cQuot xt den (ix2 ⟨16 * g.val + e.val, by omega⟩ i) = Ideal.div (xt (ix2 ⟨16 * g.val + e.val, by omega⟩ i)) (den g (ix2 0 i)) := by
  unfold cQuot
  rw [cat_apply]
  pointwise

/-- The stored divisors at an index. -/
theorem pay15_apply (xg : EReal) (a : FVec Ideal S16x256 .f32) (g : Fin 16) (i : Fin 256) :
    k0_pay15 (F := Ideal) xg a (ix2 g i) = Cert.Spec.scaleOf (a (ix2 g i)) * xg := by
  pointwise [k0_pay15, k0_pay14]
  rfl

/-- A row of divisors, read back. -/
theorem den_apply (v15 : View sig .tc .vmem S2x256x128 .f32) (v16 : View sig .tc .vmem S16x256 .f32) (L2 L3) (xg : EReal) (xc : Vec Ideal S256x256 .bf16) (sc) (g : Fin 16) (i : Fin 256) :
    v16.readCov (hDen (F := Ideal) v15 L2 L3 xg xc sc) (rBox g).toLoadRect (ix2 0 i) = k0_pay15 (F := Ideal) xg (aR v15 L2 xg xc sc) (ix2 g i) := by
  rw [View.readCov_eq_canon']
  have hx : (rBox g).toLoadRect.idx (ix2 0 i) = (Rect.unit (s := S16x256) ![0, 0] S16x256.size inb_S16x256_S16x256_0_0).emb (ix2 g i) := by
    funext a; refine Fin.ext ?_
    match a with
    | ⟨0, _⟩ => show g.val + 1 * 0 = 0 + 1 * g.val; omega
    | ⟨1, _⟩ => rfl
  exact (congrArg (View.canon _) hx).trans (View.canon_cons_emb _ _ _ _)

/-- The transposed chunk at an index. -/
theorem cXT_apply (xc : Vec Ideal S256x256 .bf16) (sc) (d i : Fin 256) : cXT xc sc (ix2 d i) = xc (ix2 i d) * sc (ix2 0 d) := by
  pointwise [cXT, k0_pay4, k0_pay2]

/-- A chunk's clipped quotients at an index. -/
theorem cT_apply (xt : FVec Ideal S256x256 .f32) (den : Fin 16 → Vec Ideal S1x256 .f32) (d i : Fin 256) :
    cT xt den (ix2 d i) = min ((6 : ℝ) : EReal) (max ((-6 : ℝ) : EReal) (cQuot xt den (ix2 d i))) := by
  rw [← Cert.Code.c600, ← Cert.Code.cm600]
  pointwise [cT]

/-- The quotient a chunk clips, at an index. -/
theorem quot_apply (v15 : View sig .tc .vmem S2x256x128 .f32) (v16 : View sig .tc .vmem S16x256 .f32) (L2 L3) (xg : EReal) (xc : Vec Ideal S256x256 .bf16) (sc) (d i : Fin 256) :
    cQuot (cXT xc sc) (fun g => v16.readCov (hDen (F := Ideal) v15 L2 L3 xg xc sc) (rBox g).toLoadRect) (ix2 d i)
      = Ideal.div (xc (ix2 i d) * sc (ix2 0 d)) (Cert.Spec.scaleOf (Ideal.div (Cert.Spec.amax fun e => xc (ix2 i ⟨e.val + 16 * (d.val / 16), by omega⟩) * sc (ix2 0 ⟨e.val + 16 * (d.val / 16), by omega⟩))
        (Ideal.ofBits .f32 1086324736#32 * xg)) * xg) := by
  have h := cQuot_apply (cXT xc sc) (fun g => v16.readCov (hDen (F := Ideal) v15 L2 L3 xg xc sc) (rBox g).toLoadRect) ⟨d.val / 16, by omega⟩ ⟨d.val % 16, by omega⟩ i
  have hd : (⟨16 * (d.val / 16) + d.val % 16, by omega⟩ : Fin 256) = d := Fin.ext (by show 16 * (d.val / 16) + d.val % 16 = d.val; omega)
  dsimp only at h
  rw [hd] at h
  rw [h, den_apply, pay15_apply, aR_apply, cXT_apply]

/-- The packed codes a chunk stores, at an index. -/
theorem xpR_apply (v15 : View sig .tc .vmem S2x256x128 .f32) (v16 : View sig .tc .vmem S16x256 .f32) (L2 L3) (xg : EReal) (xc : Vec Ideal S256x256 .bf16) (sc) (i : Fin 256) (j : Fin 128)
    (Q : Fin 256 → EReal) (hQ : ∀ d : Fin 256, Ideal.div (xc (ix2 i d) * sc (ix2 0 d)) (Cert.Spec.scaleOf (Ideal.div (Cert.Spec.amax fun e => xc (ix2 i ⟨e.val + 16 * (d.val / 16), by omega⟩) * sc (ix2 0 ⟨e.val + 16 * (d.val / 16), by omega⟩))
        (Ideal.ofBits .f32 1086324736#32 * xg)) * xg) = Q d) :
    xpR (F := Ideal) v15 v16 L2 L3 xg xc sc (ix2 i j) = Cert.Spec.byteOf (Q ⟨2 * j.val, by omega⟩) (Q ⟨2 * j.val + 1, by omega⟩) := by
  unfold xpR
  refine (cXP_apply _ _ (fun d i => cT_apply _ _ d i) i j).trans ?_
  rw [quot_apply, quot_apply, hQ, hQ]
  rfl

/-- A column before a chunk's is outside it. -/
theorem bP_not_mem (k : Fin 12) (i : Fin 256) (r : Fin 1536) (h : r.val < 128 * k.val) : (ix2 i r : S256x1536.Idx) ∉ (bP k).set := by
  unfold bP
  rw [Rect.mem_set_unit]
  intro hh
  have h2 : 128 * k.val ≤ r.val := (hh 1).1
  omega

/-- The columns of codes the first `n` chunks stored are `G`'s. -/
def LXok (l : Lists Ideal) (n : ℕ) (G : Fin 256 → Fin 1536 → BitVec 8) : Prop :=
  ∀ (i : Fin 256) (r : Fin 1536), r.val < 128 * n → View.canon (Val := Elt Ideal) l.LX (ix2 i r) = G i r

/-- A chunk adds its columns of codes and keeps the earlier ones. -/
theorem step_LX (v15 : View sig .tc .vmem S2x256x128 .f32) (v16 v17 : View sig .tc .vmem S16x256 .f32) (xg : EReal)
    (xc : Fin 12 → Vec Ideal S256x256 .bf16) (sc : Fin 12 → Vec Ideal S1x256 .f32) (l : Lists Ideal) (k : Fin 12) (G : Fin 256 → Fin 1536 → BitVec 8)
    (h : ∀ (i : Fin 256) (j : Fin 128), xpR (F := Ideal) v15 v16 l.L2 l.L3 xg (xc k) (sc k) (ix2 i j) = G i ⟨128 * k.val + j.val, by omega⟩) (hl : LXok l k.val G) :
    LXok (step (F := Ideal) v15 v16 v17 xg xc sc l k) (k.val + 1) G := by
  intro i r hr
  show View.canon (Val := Elt Ideal) ((⟨bP k, xpR (F := Ideal) v15 v16 l.L2 l.L3 xg (xc k) (sc k)⟩ : View.Piece (Elt Ideal) S256x1536 .i8) :: l.LX) (ix2 i r) = G i r
  by_cases hk : r.val < 128 * k.val
  · have hn := bP_not_mem k i r hk
    exact (View.canon_cons_of_not_mem (Val := Elt Ideal) (⟨bP k, xpR (F := Ideal) v15 v16 l.L2 l.L3 xg (xc k) (sc k)⟩ : View.Piece (Elt Ideal) S256x1536 .i8) l.LX hn).trans (hl i r hk)
  · have hy : (ix2 i r : S256x1536.Idx) = (bP k).emb (ix2 i (⟨r.val - 128 * k.val, by omega⟩ : Fin 128)) := by
      funext a; refine Fin.ext ?_
      match a with
      | ⟨0, _⟩ => show i.val = 0 + 1 * i.val; omega
      | ⟨1, _⟩ => show r.val = 128 * k.val + 1 * (r.val - 128 * k.val); omega
    rw [hy]
    refine (View.canon_cons_emb (bP k) _ _ _).trans ?_
    refine (h i _).trans ?_
    congr 1
    exact Fin.ext (by show 128 * k.val + (r.val - 128 * k.val) = r.val; omega)

/-- What a chunk's packed codes are of the whole. -/
theorem chunk_byte (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (v15 : View sig .tc .vmem S2x256x128 .f32) (v16 : View sig .tc .vmem S16x256 .f32) (L2 L3)
    (x0 : Vec Ideal S1 .f32) (x2 : Vec Ideal S256x3072 .bf16) (x3 : Vec Ideal S1x3072 .f32) (k : Fin 12) (i : Fin 256) (j : Fin 128) :
    xpR (F := Ideal) v15 v16 L2 L3 (xgOf arg1 harg1 x0) (xcOf arg3 harg3 x2 k) (scOf arg4 harg4 x3 k) (ix2 i j) = Cert.Spec.byte x2 x3 (x0 (ix1 0)) i ⟨128 * k.val + j.val, by omega⟩ := by
  refine (xpR_apply v15 v16 L2 L3 _ _ _ i j (fun d => Cert.Spec.quot x2 x3 (x0 (ix1 0)) i ⟨256 * k.val + d.val, by omega⟩) fun d => ?_).trans ?_
  · rw [chunk_scale arg1 harg1 arg3 harg3 arg4 harg4 x0 x2 x3 k ⟨d.val / 16, by omega⟩ i, xgOf_eq, xcOf_apply, scOf_apply]
    unfold Cert.Spec.quot Cert.Spec.xs
    congr 3
    exact Fin.ext (by show 16 * k.val + d.val / 16 = (256 * k.val + d.val) / 16; omega)
  · unfold Cert.Spec.byte
    congr 2 <;> exact Fin.ext (by simp only; omega)

/-- The packed codes the twelve chunks store. -/
theorem lists_LX (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (arg15 : Memref sig .tc .vmem S2x256x128 .f32) (arg16 arg17 : Memref sig .tc .vmem S16x256 .f32)
    (x0 : Vec Ideal S1 .f32) (x2 : Vec Ideal S256x3072 .bf16) (x3 : Vec Ideal S1x3072 .f32) :
    LXok (lists arg1 harg1 arg3 harg3 arg4 harg4 arg15 arg16 arg17 x0 x2 x3) 12 fun i r => Cert.Spec.byte x2 x3 (x0 (ix1 0)) i r := by
  have s := fun (k : Fin 12) (l : Lists Ideal) (hl) => step_LX arg15.view arg16.view arg17.view (xgOf arg1 harg1 x0) (xcOf arg3 harg3 x2) (scOf arg4 harg4 x3) l k
    (fun i r => Cert.Spec.byte x2 x3 (x0 (ix1 0)) i r) (fun i j => chunk_byte arg1 harg1 arg3 harg3 arg4 harg4 arg15.view arg16.view l.L2 l.L3 x0 x2 x3 k i j) hl
  exact s 11 _ (s 10 _ (s 9 _ (s 8 _ (s 7 _ (s 6 _ (s 5 _ (s 4 _ (s 3 _ (s 2 _ (s 1 _ (s 0 init fun i r h => absurd h (Nat.not_lt_zero _))))))))))))

section
variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec Ideal S1 .f32) (x1 : Vec Ideal S1 .f32) (x2 : Vec Ideal S256x3072 .bf16) (x3 : Vec Ideal S1x3072 .f32) (x4 : Vec Ideal S3072x32 .bf16) (x5 : Vec Ideal S1536x512 .i8) (x6 : Vec Ideal S192x512 .fp8e4m3) (x7 : Vec Ideal S32x512 .bf16) (x8 : Vec Ideal S1x512 .f32)
/-- What the first point leaves of the packed codes, element by element. -/
theorem out0_A_10_apply (hc0 : cond0_0 i) (y : Fin 256) (r : Fin 1536) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0 (ix2 y r) = Cert.Spec.byte x2 x3 (x0 (ix1 0)) y r := by
  unfold out0_A_10
  rw [View.read_writes_junk_eq_canon, runA_xp]
  exact lists_LX arg1 harg1 arg3 harg3 arg4 harg4 arg15 arg16 arg17 x0 x2 x3 y r r.isLt
end

end Cert.KernelIdeal.Run

end
-- ==== Proof.Run.Entry.lean ====
/- What the regions find in the arrays of their input windows. -/
module

public import proofs.«01_k».proof.Proof.Gen.KernelIdeal.Frame
public import Idealize.ShloMosaic.Lib.Pointwise
public import Idealize.ShloMosaic.PureOps.Ideal.Laws

@[expose] public section

set_option maxRecDepth 16384
noncomputable section

namespace Cert.KernelIdeal.Run
open Cert.KernelIdeal Cert.KernelIdeal.Gen
open Idealize.ShloMosaic Idealize.ShloMosaic.TcCoe Idealize.ShloMosaic.Tactic
variable {F : FTy → Type} [FloatOps F] (m : (ℓ : Loc nD τ sig) → Buf (Elt F) ℓ)
/-- What the region finds in `main_v0`. -/
theorem V_main_v0 (c : Dev nD) : V m c main_v0 = shapeCast S1 (m ((c : Thread nD τ).loc main_arg2)) shapeCasts_S_S1 := by
  show StableHlo.after hostOps0 _ (Proc.devRef .tc main_v0) = _
  after_results
  rfl
/-- What the region finds in `main_v2`. -/
theorem V_main_v2 (c : Dev nD) : V m c main_v2 = shapeCast S256x3072 (m ((c : Thread nD τ).loc main_arg0)) shapeCasts_S2x128x3072_S256x3072 := by
  show StableHlo.after hostOps0 _ (Proc.devRef .tc main_v2) = _
  after_results
  rfl
/-- What the region finds in `main_v3`. -/
theorem V_main_v3 (c : Dev nD) : V m c main_v3 = shapeCast S1x3072 (m ((c : Thread nD τ).loc main_arg1)) shapeCasts_S3072_S1x3072 := by
  show StableHlo.after hostOps0 _ (Proc.devRef .tc main_v3) = _
  after_results
  rfl
/-- Window 0's block is its array. -/
theorem read_0 (t : Fin cfg0.N) (c : Dev nD) (f : Buf (Elt F) ((c : Thread nD τ).loc main_v0)) : (win0_0.blk t).view.read (Elt F) f = f :=
  Memref.read_access_unit_zero (Elt F) main_v0
    (show (fun a => (win0_0.index t) a * main_v0.ty.shape.size a) = fun _ => 0 from
      funext fun a => by first | (have : win0_0.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 0's block at a point is what the region finds in its array. -/
theorem iblk_0 (c : Dev nD) (t : Fin cfg0.N) : iblk m c 0 t = V m c main_v0 := by
  show (win0_0.blk t).view.read (Elt F) (V m c main_v0) = _
  exact read_0 t c _
/-- Window 2's block is its array. -/
theorem read_2 (t : Fin cfg0.N) (c : Dev nD) (f : Buf (Elt F) ((c : Thread nD τ).loc main_v2)) : (win0_2.blk t).view.read (Elt F) f = f :=
  Memref.read_access_unit_zero (Elt F) main_v2
    (show (fun a => (win0_2.index t) a * main_v2.ty.shape.size a) = fun _ => 0 from
      funext fun a => by first | (have : win0_2.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 2's block at a point is what the region finds in its array. -/
theorem iblk_2 (c : Dev nD) (t : Fin cfg0.N) : iblk m c 2 t = V m c main_v2 := by
  show (win0_2.blk t).view.read (Elt F) (V m c main_v2) = _
  exact read_2 t c _
/-- Window 3's block is its array. -/
theorem read_3 (t : Fin cfg0.N) (c : Dev nD) (f : Buf (Elt F) ((c : Thread nD τ).loc main_v3)) : (win0_3.blk t).view.read (Elt F) f = f :=
  Memref.read_access_unit_zero (Elt F) main_v3
    (show (fun a => (win0_3.index t) a * main_v3.ty.shape.size a) = fun _ => 0 from
      funext fun a => by first | (have : win0_3.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 3's block at a point is what the region finds in its array. -/
theorem iblk_3 (c : Dev nD) (t : Fin cfg0.N) : iblk m c 3 t = V m c main_v3 := by
  show (win0_3.blk t).view.read (Elt F) (V m c main_v3) = _
  exact read_3 t c _

end Cert.KernelIdeal.Run

end
-- ==== Proof.Run.Arrays.lean ====
/- What the region leaves in the arrays of the packed codes and of the scales. -/
module

public import proofs.«01_k».proof.Proof.Run.Frame
public import proofs.«01_k».proof.Proof.Run.Entry
public import Idealize.ShloMosaic.Lib.Pipeline.ValueKit
@[expose] public section
set_option maxRecDepth 16384
noncomputable section
namespace Cert.KernelIdeal.Run
open Cert.KernelIdeal Cert.KernelIdeal.Gen
open Idealize.ShloMosaic Idealize.ShloMosaic.TcCoe Idealize.ShloMosaic.Tactic
open Idealize.ShloMosaic.Pipeline Idealize.SL.Sem
variable {F : FTy → Type} [FloatOps F] (m : (ℓ : Loc nD τ sig) → Buf (Elt F) ℓ)

/-- The array of the scales ends at what the first point stores. -/
theorem arr11 (c : Dev nD) : (dats m 0 c).arrAt 11 cfg0.N = (first m c).2.2.1 :=
  Dat.arrAt_eq_of_after_last _ 11 ⟨23, by decide⟩ (by decide +kernel) _ fun j => by
    rw [after0_11, outsAt0_snd]
    blk_simp
    rfl

/-- The array of the packed codes ends at what the first point stores. -/
theorem arr10 (c : Dev nD) : (dats m 0 c).arrAt 10 cfg0.N = (first m c).2.1 :=
  Dat.arrAt_eq_of_after_last _ 10 ⟨23, by decide⟩ (by decide +kernel) _ fun j => by
    rw [after0_10, outsAt0_snd]
    blk_simp
    rfl

end Cert.KernelIdeal.Run

end
-- ==== Proof.Run.RefEntry.lean ====
/- What the regions find in the arrays of their input windows. -/
module

public import proofs.«01_k».proof.Proof.Gen.ReferenceIdeal.Frame
public import Idealize.ShloMosaic.Lib.Pointwise
public import Idealize.ShloMosaic.PureOps.Ideal.Laws

@[expose] public section

set_option maxRecDepth 16384
noncomputable section

namespace Cert.ReferenceIdeal.Run
open Cert.ReferenceIdeal Cert.ReferenceIdeal.Gen
open Idealize.ShloMosaic Idealize.ShloMosaic.TcCoe Idealize.ShloMosaic.Tactic
variable {F : FTy → Type} [FloatOps F] (m : (ℓ : Loc nD τ sig) → Buf (Elt F) ℓ)
/-- What the region finds in `main_v2`. -/
theorem V_main_v2 (c : Dev nD) : V m c main_v2 = shapeCast S1x1 (m ((c : Thread nD τ).loc main_arg2)) shapeCasts_S_S1x1 := by
  show StableHlo.after hostOps0 _ (Proc.devRef .tc main_v2) = _
  after_results
  rfl
/-- What the region finds in `main_v0`. -/
theorem V_main_v0 (c : Dev nD) : V m c main_v0 = shapeCast S256x3072 (m ((c : Thread nD τ).loc main_arg0)) shapeCasts_S2x128x3072_S256x3072 := by
  show StableHlo.after hostOps0 _ (Proc.devRef .tc main_v0) = _
  after_results
  rfl
/-- What the region finds in `main_v1`. -/
theorem V_main_v1 (c : Dev nD) : V m c main_v1 = shapeCast S1x3072 (m ((c : Thread nD τ).loc main_arg1)) shapeCasts_S3072_S1x3072 := by
  show StableHlo.after hostOps0 _ (Proc.devRef .tc main_v1) = _
  after_results
  rfl
/-- Window 2's block is its array. -/
theorem read_2 (t : Fin cfg0.N) (c : Dev nD) (f : Buf (Elt F) ((c : Thread nD τ).loc main_v2)) : (win0_2.blk t).view.read (Elt F) f = f :=
  Memref.read_access_unit_zero (Elt F) main_v2
    (show (fun a => (win0_2.index t) a * main_v2.ty.shape.size a) = fun _ => 0 from
      funext fun a => by first | (have : win0_2.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 2's block at a point is what the region finds in its array. -/
theorem iblk_2 (c : Dev nD) (t : Fin cfg0.N) : iblk m c 2 t = V m c main_v2 := by
  show (win0_2.blk t).view.read (Elt F) (V m c main_v2) = _
  exact read_2 t c _
/-- Window 0's block is its array. -/
theorem read_0 (t : Fin cfg0.N) (c : Dev nD) (f : Buf (Elt F) ((c : Thread nD τ).loc main_v0)) : (win0_0.blk t).view.read (Elt F) f = f :=
  Memref.read_access_unit_zero (Elt F) main_v0
    (show (fun a => (win0_0.index t) a * main_v0.ty.shape.size a) = fun _ => 0 from
      funext fun a => by first | (have : win0_0.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 0's block at a point is what the region finds in its array. -/
theorem iblk_0 (c : Dev nD) (t : Fin cfg0.N) : iblk m c 0 t = V m c main_v0 := by
  show (win0_0.blk t).view.read (Elt F) (V m c main_v0) = _
  exact read_0 t c _
/-- Window 1's block is its array. -/
theorem read_1 (t : Fin cfg0.N) (c : Dev nD) (f : Buf (Elt F) ((c : Thread nD τ).loc main_v1)) : (win0_1.blk t).view.read (Elt F) f = f :=
  Memref.read_access_unit_zero (Elt F) main_v1
    (show (fun a => (win0_1.index t) a * main_v1.ty.shape.size a) = fun _ => 0 from
      funext fun a => by first | (have : win0_1.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 1's block at a point is what the region finds in its array. -/
theorem iblk_1 (c : Dev nD) (t : Fin cfg0.N) : iblk m c 1 t = V m c main_v1 := by
  show (win0_1.blk t).view.read (Elt F) (V m c main_v1) = _
  exact read_1 t c _

end Cert.ReferenceIdeal.Run

end
-- ==== Proof.Run.RefValue.lean ====
/- What the reference leaves in the array of the scales. -/
module

public import proofs.«01_k».proof.Proof.Gen.ReferenceIdeal.Value
public import proofs.«01_k».proof.Proof.Run.RefEntry
public import proofs.«01_k».proof.Proof.Run.Spec
public import Idealize.ShloMosaic.Lib.Pointwise
public import Idealize.ShloMosaic.Lib.Pipeline.ReadBack
public import Idealize.ShloMosaic.Lib.Pipeline.ValueKit
@[expose] public section
set_option maxRecDepth 16384
noncomputable section
namespace Cert.ReferenceIdeal.Run
open Cert.ReferenceIdeal Cert.ReferenceIdeal.Gen
open Idealize.ShloMosaic Idealize.ShloMosaic.TcCoe Idealize.ShloMosaic.Tactic
open Idealize.ShloMosaic.Pipeline Idealize.SL.Sem

/-- The scale, its group's columns counted from the group's first. -/
theorem scale_eq (P0 : Vec Ideal S256x3072 .bf16) (P1 : Vec Ideal S1x3072 .f32) (xg : EReal) (i : Fin 256) (g : Fin 192) :
    Cert.Spec.scale P0 P1 xg i g = Cert.Spec.scaleOf (Ideal.div (Finset.fold max (Ideal.ofBits .f32 4286578688#32)
      (fun x : Fin 16 => FloatOps.absf (F := Ideal) (φ := .f32) (P0 (ix2 i ⟨g.val * 16 + x.val, by omega⟩) * P1 (ix2 0 ⟨g.val * 16 + x.val, by omega⟩))) Finset.univ) (Ideal.ofBits .f32 1086324736#32 * xg)) := by
  unfold Cert.Spec.scale Cert.Spec.amax Cert.Spec.xs
  rw [Cert.Spec.ofBits_bot]
  have h : ∀ e : Fin 16, (⟨16 * g.val + e.val, by omega⟩ : Fin 3072) = ⟨g.val * 16 + e.val, by omega⟩ := fun e => Fin.ext (by show 16 * g.val + e.val = g.val * 16 + e.val; omega)
  simp only [h]
  rfl

/-- The reference's scales, element by element. -/
theorem pay6_apply (P0 : Vec Ideal S256x3072 .bf16) (P1 : Vec Ideal S1x3072 .f32) (P2 : Vec Ideal S1x1 .f32) (i : Fin 256) (g : Fin 192) :
    @Eq EReal (k0_pay6 (F := Ideal) P0 P1 P2 (ix2 i g)) (Cert.Spec.scale P0 P1 (P2 (ix2 0 0)) i g) := by
  rw [scale_eq]
  unfold Cert.Spec.scaleOf
  pointwise [k0_pay6, k0_pay5, k0_pay4,k0_pay3,k0_pay2,k0_pay1]
  rw [Cert.Spec.ofBits_one]

variable {F : FTy → Type} [FloatOps F] (m : (ℓ : Loc nD τ sig) → Buf (Elt F) ℓ)

/-- The offsets of a load of a whole matrix are zero. -/
theorem zero2 : (![0, 0] : Fin 2 → ℕ) = fun _ => 0 := by funext a; fin_cases a <;> rfl

/-- The reference's one store of the scales. -/
theorem out11_eq (x0 : Vec F S256x3072 .bf16) (x1 : Vec F S1x3072 .f32) (x2 : Vec F S1x1 .f32) (x3 : Vec F S1536x12288 .i8) (x4 : Vec F S192x12288 .fp8e4m3) (x5 : Vec F S1x1 .f32) (x6 : Vec F S3072x32 .bf16) (x7 : Vec F S32x12288 .bf16) (x8 : Vec F S1x12288 .f32) :
    out0_11 x0 x1 x2 x3 x4 x5 x6 x7 x8 = k0_pay6 x0 x1 x2 := by
  unfold out0_11 k0_pay38 r0_10 r0_0 r0_1 r0_4
  rw [View.canon_unit_zero zero2, View.ld_unit_zero zero2, View.ld_unit_zero zero2, View.ld_unit_zero zero2]

/-- The reference's array of the scales ends at its one point's. -/
theorem arr11 (c : Dev nD) : (dats m 0 c).arrAt 11 cfg0.N = k0_pay6 (V m c main_v0) (V m c main_v1) (V m c main_v2) :=
  Dat.arrAt_eq_of_after_last _ 11 ⟨0, by decide⟩ (by decide +kernel) _ fun j => by
    rw [after0_11, out11_eq, iblk_0, iblk_1, iblk_2]
    blk_simp

end Cert.ReferenceIdeal.Run

end
-- ==== Proof.Run.Scaled.lean ====
/- The two programs leave the same scales. -/
module

public import proofs.«01_k».proof.Proof.Run.ScaleValue
public import proofs.«01_k».proof.Proof.Run.Arrays
public import proofs.«01_k».proof.Proof.Run.RefValue
@[expose] public section
set_option maxRecDepth 16384
noncomputable section
namespace Cert.KernelIdeal.Run
open Cert.KernelIdeal Cert.KernelIdeal.Gen
open Idealize.ShloMosaic Idealize.ShloMosaic.TcCoe

/-- What the first point leaves of the scales. -/
theorem first_11 {F : FTy → Type} [FloatOps F] (m : (ℓ : Loc nD τ sig) → Buf (Elt F) ℓ) (c : Dev nD) : (first m c).2.2.1 = out0_A_11 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0 := by
  unfold first
  dsimp only

end Cert.KernelIdeal.Run

namespace Cert.Scaled
open Idealize.ShloMosaic Idealize.ShloMosaic.TcCoe Idealize.ShloMosaic.Tactic
open Idealize.ShloMosaic.Pipeline Idealize.SL.Sem

/-- What the kernel leaves of the scales, element by element, of the arrays its region finds. -/
theorem first_scales (m : (ℓ : Loc KernelIdeal.nD KernelIdeal.τ KernelIdeal.sig) → Buf (Elt Ideal) ℓ) (c : Dev KernelIdeal.nD) (i : Fin 256) (g : Fin 192) :
    @Eq EReal ((KernelIdeal.Run.first m c).2.2.1 (ix2 i g))
      (Cert.Spec.scale (KernelIdeal.Gen.V m c KernelIdeal.main_v2) (KernelIdeal.Gen.V m c KernelIdeal.main_v3) ((KernelIdeal.Gen.V m c KernelIdeal.main_v0) (ix1 0)) i g) := by
  rw [KernelIdeal.Run.first_11]
  refine (KernelIdeal.Run.out0_A_11_apply _ _ _ _ _ _ _ _ _ _ _ _ _ _ _ _ _ _ _ _ _ _ _ _ _ _ _ _ _ _ _ _ _ _ _ _ _ _ _ _ _ _ _ _ _ _ _ _ _ _ i g).trans ?_
  rw [KernelIdeal.Run.iblk_0, KernelIdeal.Run.iblk_2, KernelIdeal.Run.iblk_3]

/-- A scalar reshaped is read at its one index. -/
theorem scalar_reshape (s : Shape) (f : (⟨0, ![]⟩ : Shape).Idx → EReal) (h : (⟨0, ![]⟩ : Shape).ShapeCasts s) (j : s.Idx) (z : (⟨0, ![]⟩ : Shape).Idx) : shapeCast s f h j = f z :=
  congrArg f (funext fun a => a.elim0)

/-- On memories that agree at the arguments, the scales the reference leaves are those the kernel leaves. -/
theorem scales_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (ReferenceIdeal.Gen.dats m' 0 c).arrAt 11 ReferenceIdeal.cfg0.N = (KernelIdeal.Run.first m c).2.2.1 := by
  rw [ReferenceIdeal.Run.arr11]
  funext y
  obtain ⟨i, g, rfl⟩ : ∃ (i : Fin 256) (g : Fin 192), y = ix2 i g := ⟨y 0, y 1, by funext a; fin_cases a <;> rfl⟩
  refine (ReferenceIdeal.Run.pay6_apply _ _ _ i g).trans (Eq.trans ?_ (first_scales m c i g).symm)
  rw [ReferenceIdeal.Run.V_main_v0, ReferenceIdeal.Run.V_main_v1, ReferenceIdeal.Run.V_main_v2, KernelIdeal.Run.V_main_v0, KernelIdeal.Run.V_main_v2, KernelIdeal.Run.V_main_v3, h0, h1, h2]
  rw [scalar_reshape _ _ _ _ (fun a => a.elim0), scalar_reshape _ _ _ _ (fun a => a.elim0)]

end Cert.Scaled

end
-- ==== Proof.Run.RefByte.lean ====
/- What the reference leaves in the array of the packed codes. -/
module

public import proofs.«01_k».proof.Proof.Run.RefValue
public import proofs.«01_k».proof.Proof.Run.Byte
@[expose] public section
set_option maxRecDepth 16384
noncomputable section
namespace Cert.ReferenceIdeal.Run
open Cert.ReferenceIdeal Cert.ReferenceIdeal.Gen
open Idealize.ShloMosaic Idealize.ShloMosaic.TcCoe Idealize.ShloMosaic.Tactic
open Idealize.ShloMosaic.Pipeline Idealize.SL.Sem

/-- The reference's packed codes at an index, of quotients and clipped magnitudes. -/
theorem pack_apply (t u two : FVec Ideal S256x192x16 .f32) (i : Fin 256) (r : Fin 1536)
    (h2 : ∀ y, two y = Ideal.ofBits .f32 1073741824#32) :
    k0_pay14 (k0_pay11 t u two) (k0_pay12 t u two) k0_pay13 (ix2 i r)
      = IntOp.ori (Cert.Code.rcode (t (ix3 i ⟨r.val / 8, by omega⟩ ⟨r.val % 8 * 2, by omega⟩)) (u (ix3 i ⟨r.val / 8, by omega⟩ ⟨r.val % 8 * 2, by omega⟩)))
        (IntOp.shli .vector (Cert.Code.rcode (t (ix3 i ⟨r.val / 8, by omega⟩ ⟨r.val % 8 * 2 + 1, by omega⟩)) (u (ix3 i ⟨r.val / 8, by omega⟩ ⟨r.val % 8 * 2 + 1, by omega⟩))) 4#8) := by
  unfold Cert.Code.rcode Cert.Code.ridx Cert.Code.rmag
  pointwise [k0_pay14, k0_pay13, k0_pay11, k0_pay12, k0_pay10]
  simp only [h2]
  rfl

/-- The reference's quotients at an index. -/
theorem pay7_apply (P0 : Vec Ideal S256x3072 .bf16) (P1 : Vec Ideal S1x3072 .f32) (P2 : Vec Ideal S1x1 .f32) (i : Fin 256) (g : Fin 192) (e : Fin 16) :
    k0_pay7 (F := Ideal) P0 P1 P2 (ix3 i g e) = Cert.Spec.quot P0 P1 (P2 (ix2 0 0)) i ⟨16 * g.val + e.val, by omega⟩ := by
  have h : k0_pay7 (F := Ideal) P0 P1 P2 (ix3 i g e) = Ideal.div (P0 (ix2 i ⟨g.val * 16 + e.val, by omega⟩) * P1 (ix2 0 ⟨g.val * 16 + e.val, by omega⟩))
      (@HMul.hMul EReal EReal EReal _ (k0_pay6 (F := Ideal) P0 P1 P2 (ix2 i g)) (P2 (ix2 0 0))) := by
    unfold k0_pay7
    generalize k0_pay6 (F := Ideal) P0 P1 P2 = s
    pointwise [k0_pay5, k0_pay4, k0_pay3, k0_pay2, k0_pay1]
  rw [h, pay6_apply]
  unfold Cert.Spec.quot Cert.Spec.xs
  have hd : (⟨g.val * 16 + e.val, by omega⟩ : Fin 3072) = ⟨16 * g.val + e.val, by omega⟩ := Fin.ext (by show g.val * 16 + e.val = 16 * g.val + e.val; omega)
  rw [hd]
  congr 3
  exact Fin.ext (by show g.val = (16 * g.val + e.val) / 16; omega)

/-- The reference's clipped magnitudes at an index. -/
theorem pay8_apply (P0 : Vec Ideal S256x3072 .bf16) (P1 : Vec Ideal S1x3072 .f32) (P2 : Vec Ideal S1x1 .f32) (y : S256x192x16.Idx) :
    k0_pay8 (F := Ideal) P0 P1 P2 y = min (max (k0_pay7 (F := Ideal) P0 P1 P2 y) (-(k0_pay7 (F := Ideal) P0 P1 P2 y))) ((6 : ℝ) : EReal) := by
  rw [← Cert.Code.c600]
  rfl

/-- The packed codes the reference stores, of what it loads. -/
def packOf {F : FTy → Type} [FloatOps F] (P0 : Vec F S256x3072 .bf16) (P1 : Vec F S1x3072 .f32) (P2 : Vec F S1x1 .f32) : IVec S256x1536 8 :=
  k0_pay14 (k0_pay11 (k0_pay7 P0 P1 P2) (k0_pay8 P0 P1 P2) k0_pay9) (k0_pay12 (k0_pay7 P0 P1 P2) (k0_pay8 P0 P1 P2) k0_pay9) k0_pay13

/-- The reference's packed codes, element by element. -/
theorem packOf_apply (P0 : Vec Ideal S256x3072 .bf16) (P1 : Vec Ideal S1x3072 .f32) (P2 : Vec Ideal S1x1 .f32) (i : Fin 256) (r : Fin 1536) :
    packOf (F := Ideal) P0 P1 P2 (ix2 i r) = Cert.Spec.byte P0 P1 (P2 (ix2 0 0)) i r := by
  unfold packOf
  rw [pack_apply (k0_pay7 P0 P1 P2) (k0_pay8 P0 P1 P2) k0_pay9 i r fun _ => rfl]
  rw [pay8_apply, pay8_apply, Cert.Code.rcode_eq, Cert.Code.rcode_eq, pay7_apply, pay7_apply]
  refine (Cert.Nibble.join _ _).trans ?_
  unfold Cert.Spec.byte Cert.Spec.byteOf
  have h0 : (⟨16 * (r.val / 8) + r.val % 8 * 2, by omega⟩ : Fin 3072) = ⟨2 * r.val, by omega⟩ := Fin.ext (by show 16 * (r.val / 8) + r.val % 8 * 2 = 2 * r.val; omega)
  have h1 : (⟨16 * (r.val / 8) + (r.val % 8 * 2 + 1), by omega⟩ : Fin 3072) = ⟨2 * r.val + 1, by omega⟩ := Fin.ext (by show 16 * (r.val / 8) + (r.val % 8 * 2 + 1) = 2 * r.val + 1; omega)
  rw [← h0, ← h1]

variable {F : FTy → Type} [FloatOps F] (m : (ℓ : Loc nD τ sig) → Buf (Elt F) ℓ)

/-- The reference's one store of the packed codes. -/
theorem out10_eq (x0 : Vec F S256x3072 .bf16) (x1 : Vec F S1x3072 .f32) (x2 : Vec F S1x1 .f32) (x3 : Vec F S1536x12288 .i8) (x4 : Vec F S192x12288 .fp8e4m3) (x5 : Vec F S1x1 .f32) (x6 : Vec F S3072x32 .bf16) (x7 : Vec F S32x12288 .bf16) (x8 : Vec F S1x12288 .f32) :
    out0_10 x0 x1 x2 x3 x4 x5 x6 x7 x8 = packOf x0 x1 x2 := by
  unfold out0_10 k0_pay45 k0_pay44 k0_pay43 k0_pay42 k0_pay41 k0_pay40 k0_pay39 r0_9 r0_0 r0_1 r0_4
  rw [View.canon_unit_zero zero2, View.ld_unit_zero zero2, View.ld_unit_zero zero2, View.ld_unit_zero zero2]
  rfl

/-- The reference's array of the packed codes ends at its one point's. -/
theorem arr10 (c : Dev nD) : (dats m 0 c).arrAt 10 cfg0.N = packOf (V m c main_v0) (V m c main_v1) (V m c main_v2) :=
  Dat.arrAt_eq_of_after_last _ 10 ⟨0, by decide⟩ (by decide +kernel) _ fun j => by
    rw [after0_10, out10_eq, iblk_0, iblk_1, iblk_2]
    blk_simp

end Cert.ReferenceIdeal.Run

end
-- ==== Proof.Run.Coded.lean ====
/- The two programs leave the same packed codes. -/
module

public import proofs.«01_k».proof.Proof.Run.ByteValue
public import proofs.«01_k».proof.Proof.Run.Scaled
public import proofs.«01_k».proof.Proof.Run.RefByte
@[expose] public section
set_option maxRecDepth 16384
noncomputable section
namespace Cert.KernelIdeal.Run
open Cert.KernelIdeal Cert.KernelIdeal.Gen
open Idealize.ShloMosaic Idealize.ShloMosaic.TcCoe

/-- What the first point leaves of the packed codes. -/
theorem first_10 {F : FTy → Type} [FloatOps F] (m : (ℓ : Loc nD τ sig) → Buf (Elt F) ℓ) (c : Dev nD) : (first m c).2.1 = out0_A_10 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 p0) (iblk m c 1 p0) (iblk m c 2 p0) (iblk m c 3 p0) (iblk m c 4 p0) (iblk m c 5 p0) (iblk m c 6 p0) (iblk m c 7 p0) (iblk m c 8 p0) hc_p0 := by
  unfold first
  dsimp only

end Cert.KernelIdeal.Run

namespace Cert.Scaled
open Idealize.ShloMosaic Idealize.ShloMosaic.TcCoe Idealize.ShloMosaic.Tactic
open Idealize.ShloMosaic.Pipeline Idealize.SL.Sem

/-- What the kernel leaves of the packed codes, element by element, of the arrays its region finds. -/
theorem first_bytes (m : (ℓ : Loc KernelIdeal.nD KernelIdeal.τ KernelIdeal.sig) → Buf (Elt Ideal) ℓ) (c : Dev KernelIdeal.nD) (i : Fin 256) (r : Fin 1536) :
    (KernelIdeal.Run.first m c).2.1 (ix2 i r)
      = Cert.Spec.byte (KernelIdeal.Gen.V m c KernelIdeal.main_v2) (KernelIdeal.Gen.V m c KernelIdeal.main_v3) ((KernelIdeal.Gen.V m c KernelIdeal.main_v0) (ix1 0)) i r := by
  rw [KernelIdeal.Run.first_10]
  refine (KernelIdeal.Run.out0_A_10_apply _ _ _ _ _ _ _ _ _ _ _ _ _ _ _ _ _ _ _ _ _ _ _ _ _ _ _ _ _ _ _ _ _ _ _ _ _ _ _ _ _ _ _ _ _ _ _ _ _ _ i r).trans ?_
  rw [KernelIdeal.Run.iblk_0, KernelIdeal.Run.iblk_2, KernelIdeal.Run.iblk_3]

/-- On memories that agree at the arguments, the packed codes the reference leaves are those the kernel leaves. -/
theorem bytes_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (ReferenceIdeal.Gen.dats m' 0 c).arrAt 10 ReferenceIdeal.cfg0.N = (KernelIdeal.Run.first m c).2.1 := by
  rw [ReferenceIdeal.Run.arr10]
  funext y
  obtain ⟨i, r, rfl⟩ : ∃ (i : Fin 256) (r : Fin 1536), y = ix2 i r := ⟨y 0, y 1, by funext a; fin_cases a <;> rfl⟩
  refine (ReferenceIdeal.Run.packOf_apply _ _ _ i r).trans (Eq.trans ?_ (first_bytes m c i r).symm)
  rw [ReferenceIdeal.Run.V_main_v0, ReferenceIdeal.Run.V_main_v1, ReferenceIdeal.Run.V_main_v2, KernelIdeal.Run.V_main_v0, KernelIdeal.Run.V_main_v2, KernelIdeal.Run.V_main_v3, h0, h1, h2]
  rw [scalar_reshape _ _ _ _ (fun a => a.elim0), scalar_reshape _ _ _ _ (fun a => a.elim0)]

end Cert.Scaled

end
-- ==== Proof.Run.Vals.lean ====
/- The value a code stands for, and the two ways it is decoded. -/
module

public import proofs.«01_k».proof.Proof.Run.Byte

@[expose] public section

noncomputable section

namespace Cert.Code

open Idealize.ShloMosaic

/-- A bit of a code. -/
def bit (c : BitVec 32) (k : BitVec 32) : BitVec 1 := IntOp.cmpi .eq (IntOp.andi (IntOp.shrsi .vector c k) 1#32) 1#32

/-- The magnitude of a code, by its three low bits. -/
def mval (c : BitVec 32) : EReal :=
  Scalar.select (bit c 2#32)
    (Scalar.select (bit c 1#32) (Scalar.select (bit c 0#32) (Ideal.ofBits .bf16 0x40C0#16) (Ideal.ofBits .bf16 0x4080#16)) (Scalar.select (bit c 0#32) (Ideal.ofBits .bf16 0x4040#16) (Ideal.ofBits .bf16 0x4000#16)))
    (Scalar.select (bit c 1#32) (Scalar.select (bit c 0#32) (Ideal.ofBits .bf16 0x3FC0#16) (Ideal.ofBits .bf16 0x3F80#16)) (Scalar.select (bit c 0#32) (Ideal.ofBits .bf16 0x3F00#16) (Ideal.ofBits .bf16 0x0000#16)))

/-- The value of a code, by its four bits. -/
def rval (c : BitVec 32) : EReal := Scalar.select (bit c 3#32) (Ideal.ofBits .bf16 0x0000#16 - mval c) (mval c)

/-- The kernel's integer of twice a code's magnitude. -/
def kint (c : BitVec 32) : BitVec 32 :=
  Scalar.select (IntOp.cmpi .eq (IntOp.andi (IntOp.shrsi .vector c 1#32) 3#32) 0#32) (IntOp.andi c 1#32)
    (IntOp.shli .vector (IntOp.addi (IntOp.andi c 1#32) 2#32) (IntOp.maxsi (IntOp.subi (IntOp.andi (IntOp.shrsi .vector c 1#32) 3#32) 1#32) 0#32))

/-- The kernel's magnitude of a code. -/
def kmag (c : BitVec 32) : EReal := FloatOps.sitofp (F := Ideal) .f32 (kint c) * Ideal.ofBits .f32 0x3F000000#32

/-- The kernel's value of a code. -/
def kval (c : BitVec 32) : EReal := Scalar.select (IntOp.cmpi .sge c 8#32) (Ideal.ofBits .f32 0x00000000#32 - kmag c) (kmag c)

theorem b000 : Ideal.ofBits .bf16 0x0000#16 = ((0 : ℝ) : EReal) := by simp [Ideal.ofBits, Ideal.ieee, -EReal.coe_mul]
theorem b050 : Ideal.ofBits .bf16 0x3F00#16 = ((1 / 2 : ℝ) : EReal) := by simp [Ideal.ofBits, Ideal.ieee, -EReal.coe_mul]; norm_num
theorem b100 : Ideal.ofBits .bf16 0x3F80#16 = ((1 : ℝ) : EReal) := by simp [Ideal.ofBits, Ideal.ieee, -EReal.coe_mul]; norm_num
theorem b150 : Ideal.ofBits .bf16 0x3FC0#16 = ((3 / 2 : ℝ) : EReal) := by simp [Ideal.ofBits, Ideal.ieee, -EReal.coe_mul]; norm_num
theorem b200 : Ideal.ofBits .bf16 0x4000#16 = ((2 : ℝ) : EReal) := by simp [Ideal.ofBits, Ideal.ieee, -EReal.coe_mul]; norm_num
theorem b300 : Ideal.ofBits .bf16 0x4040#16 = ((3 : ℝ) : EReal) := by simp [Ideal.ofBits, Ideal.ieee, -EReal.coe_mul]; norm_num
theorem b400 : Ideal.ofBits .bf16 0x4080#16 = ((4 : ℝ) : EReal) := by simp [Ideal.ofBits, Ideal.ieee, -EReal.coe_mul]; norm_num
theorem b600 : Ideal.ofBits .bf16 0x40C0#16 = ((6 : ℝ) : EReal) := by simp [Ideal.ofBits, Ideal.ieee, -EReal.coe_mul]; norm_num
theorem f000 : Ideal.ofBits .f32 0x00000000#32 = ((0 : ℝ) : EReal) := by simp [Ideal.ofBits, Ideal.ieee, -EReal.coe_mul]
theorem f050 : Ideal.ofBits .f32 0x3F000000#32 = ((1 / 2 : ℝ) : EReal) := by simp [Ideal.ofBits, Ideal.ieee, -EReal.coe_mul]; norm_num

/-- The kernel's integer of each code. -/
theorem kint_eq : ∀ k : Fin 16, (kint ((BitVec.ofNat 4 k.val).setWidth 32)).toInt = (![0, 1, 2, 3, 4, 6, 8, 12, 0, 1, 2, 3, 4, 6, 8, 12] : Fin 16 → ℤ) k := by
  decide

/-- Both magnitudes are one. -/
theorem kmag_eq (k : Fin 16) : kmag ((BitVec.ofNat 4 k.val).setWidth 32) = mval ((BitVec.ofNat 4 k.val).setWidth 32) := by
  have hk : kmag ((BitVec.ofNat 4 k.val).setWidth 32) = ((((kint ((BitVec.ofNat 4 k.val).setWidth 32)).toInt : ℝ) * (1 / 2) : ℝ) : EReal) := by
    unfold kmag
    rw [f050, EReal.coe_mul]
    rfl
  rw [hk, kint_eq]
  unfold mval
  rw [b000, b050, b100, b150, b200, b300, b400, b600]
  fin_cases k
  all_goals
    refine congrArg Real.toEReal (?_ : _ = _)
    norm_num

/-- Both values are one. -/
theorem kval_eq (n : BitVec 4) : kval (n.setWidth 32) = rval (n.setWidth 32) := by
  have h : ∃ k : Fin 16, n = BitVec.ofNat 4 k.val := ⟨⟨n.toNat, n.isLt⟩, by simp⟩
  obtain ⟨k, rfl⟩ := h
  unfold kval rval
  rw [kmag_eq, f000, b000]
  have hs : IntOp.cmpi .sge ((BitVec.ofNat 4 k.val).setWidth 32) 8#32 = bit ((BitVec.ofNat 4 k.val).setWidth 32) 3#32 := by
    revert k; decide
  rw [hs]

end Cert.Code

end
-- ==== Proof.Run.YSpec.lean ====
/- The mathematics of the first result: the dequantised product, the low-rank product and the bias. -/
module

public import proofs.«01_k».proof.Proof.Run.Byte
public import proofs.«01_k».proof.Proof.Run.Vals

@[expose] public section

noncomputable section

namespace Cert.Code

open Idealize.ShloMosaic

/-- Nibble `p` of a byte. -/
def nibble (b : BitVec 8) (p : ℕ) : BitVec 4 := b.extractLsb' (4 * p) 4

/-- The value of nibble `p` of a byte. -/
def nval (b : BitVec 8) (p : ℕ) : EReal := rval ((nibble b p).setWidth 32)

/-- The low nibble of a widened byte. -/
theorem low32 : ∀ b : BitVec 8, IntOp.andi (b.setWidth 32) 15#32 = (nibble b 0).setWidth 32 := by decide +kernel

/-- The low nibble of a byte, widened. -/
theorem low8 : ∀ b : BitVec 8, (IntOp.andi b 15#8).setWidth 32 = (nibble b 0).setWidth 32 := by decide +kernel

/-- The high nibble of a widened byte. -/
theorem high32 : ∀ b : BitVec 8, IntOp.shrsi .vector (b.setWidth 32) 4#32 = (nibble b 1).setWidth 32 := by decide +kernel

end Cert.Code

namespace Cert.Spec

open Idealize.ShloMosaic Cert.Nibble Cert.Code

/-- A dequantised activation: its code's value times its group's scale. -/
def xq (X : (⟨2, ![256, 3072]⟩ : Shape).Idx → EReal) (S : (⟨2, ![1, 3072]⟩ : Shape).Idx → EReal) (xg : EReal) (i : Fin 256) (d : Fin 3072) : EReal :=
  nval (byte X S xg i ⟨d.val / 2, by omega⟩) (d.val % 2) * scale X S xg i ⟨d.val / 16, by omega⟩

/-- A dequantised weight of a column: its code's value times its group's scale. -/
def wq (w : Fin 1536 → BitVec 8) (ws : Fin 192 → EReal) (d : Fin 3072) : EReal :=
  nval (w ⟨d.val / 2, by omega⟩) (d.val % 2) * ws ⟨d.val / 16, by omega⟩

/-- The low-rank factor of a row. -/
def low (X : (⟨2, ![256, 3072]⟩ : Shape).Idx → EReal) (S : (⟨2, ![1, 3072]⟩ : Shape).Idx → EReal) (L : (⟨2, ![3072, 32]⟩ : Shape).Idx → EReal) (i : Fin 256) (r : Fin 32) : EReal :=
  ∑ d : Fin 3072, xs X S i d * L (ix2 d r)

/-- The first result at row `i` of a column of weights, scales, low-rank factors and bias. -/
def y (X : (⟨2, ![256, 3072]⟩ : Shape).Idx → EReal) (S : (⟨2, ![1, 3072]⟩ : Shape).Idx → EReal) (xg wg : EReal) (L : (⟨2, ![3072, 32]⟩ : Shape).Idx → EReal)
    (i : Fin 256) (w : Fin 1536 → BitVec 8) (ws : Fin 192 → EReal) (u : Fin 32 → EReal) (b : EReal) : EReal :=
  ((∑ d : Fin 3072, xq X S xg i d * wq w ws d) * (xg * wg) + ∑ r : Fin 32, low X S L i r * u r) + b

/-- A sum of twelve, in turn. -/
theorem sum12 (f : Fin 12 → EReal) : ∑ k, f k = f 0 + f 1 + f 2 + f 3 + f 4 + f 5 + f 6 + f 7 + f 8 + f 9 + f 10 + f 11 := by
  simp only [Fin.sum_univ_castSucc, Fin.sum_univ_zero, zero_add]
  rfl

/-- A sum over the columns, chunk by chunk. -/
theorem sum_chunks (f : Fin 3072 → EReal) : ∑ d, f d = ∑ k : Fin 12, ∑ e : Fin 256, f ⟨256 * k.val + e.val, by omega⟩ := by
  rw [← Fintype.sum_prod_type']
  refine (Fintype.sum_equiv (finProdFinEquiv (m := 12) (n := 256)) _ _ fun x => ?_).symm
  refine congrArg f (Fin.ext ?_)
  show 256 * x.1.val + x.2.val = x.2.val + 256 * x.1.val
  omega

end Cert.Spec

end
-- ==== Proof.Run.WQ.lean ====
/- The dequantised weights and activations of a chunk, element by element. -/
module

public import proofs.«01_k».proof.Proof.Run.ByteValue
public import proofs.«01_k».proof.Proof.Run.YSpec
@[expose] public section
set_option maxRecDepth 16384
noncomputable section

namespace Cert.KernelIdeal.Run
open Cert.KernelIdeal Cert.KernelIdeal.Gen
open Idealize.ShloMosaic Idealize.ShloMosaic.TcCoe Idealize.ShloMosaic.Tactic
open Cert.Code

/-- Row `e` of slab `g` of sixteen slabs of sixteen rows of weights. -/
theorem catW_apply {α : Type} (v : Fin 16 → S16x512.Idx → α) (g e : Fin 16) (n : Fin 512) :
    cat v concats512 (ix2 ⟨16 * g.val + e.val, by omega⟩ n) = v g (ix2 e n) := by
  refine concatenate_ofFn_apply (s₁ := S16x512) (t := S256x512) 0 v concats512 rfl 16 rfl _ g ?_ (ix2 e n) ?_ ?_
  · show (16 * g.val + e.val) / 16 = g.val
    omega
  · show e.val = (16 * g.val + e.val) % 16
    omega
  · intro b hb
    match b with
    | ⟨0, _⟩ => exact absurd rfl hb
    | ⟨1, _⟩ => rfl

/-- The low codes of packed weights. -/
theorem pay651_low (w : Vec Ideal S128x512 .i8) (j : Fin 128) (n : Fin 512) :
    k0_pay651 (F := Ideal) w (ix2 ⟨2 * j.val, by omega⟩ n) = (nibble (w (ix2 j n)) 0).setWidth 32 := by
  rw [← low32]
  pointwise [k0_pay651]
  exact dif_pos (by omega)

/-- The high codes of packed weights. -/
theorem pay651_high (w : Vec Ideal S128x512 .i8) (j : Fin 128) (n : Fin 512) :
    k0_pay651 (F := Ideal) w (ix2 ⟨2 * j.val + 1, by omega⟩ n) = (nibble (w (ix2 j n)) 1).setWidth 32 := by
  rw [← high32]
  pointwise [k0_pay651]
  exact dif_neg (by omega)

/-- The codes of packed weights. -/
theorem pay651_apply (w : Vec Ideal S128x512 .i8) (d : Fin 256) (n : Fin 512) :
    k0_pay651 (F := Ideal) w (ix2 d n) = (nibble (w (ix2 ⟨d.val / 2, by omega⟩ n)) (d.val % 2)).setWidth 32 := by
  rcases Nat.mod_two_eq_zero_or_one d.val with h | h
  · have e := pay651_low w ⟨d.val / 2, by omega⟩ n
    have hd : (⟨2 * (d.val / 2), by omega⟩ : Fin 256) = d := Fin.ext (by show 2 * (d.val / 2) = d.val; omega)
    rw [h, ← e]
    exact congrArg (fun x => k0_pay651 (F := Ideal) w (ix2 x n)) hd.symm
  · have e := pay651_high w ⟨d.val / 2, by omega⟩ n
    have hd : (⟨2 * (d.val / 2) + 1, by omega⟩ : Fin 256) = d := Fin.ext (by show 2 * (d.val / 2) + 1 = d.val; omega)
    rw [h, ← e]
    exact congrArg (fun x => k0_pay651 (F := Ideal) w (ix2 x n)) hd.symm

/-- The kernel's value of a code of the weights. -/
theorem pay653_apply (w : Vec Ideal S128x512 .i8) (d : Fin 256) (n : Fin 512) :
    k0_pay653 (F := Ideal) (k0_pay651 (F := Ideal) w) (k0_pay652 w) (ix2 d n) = kval (k0_pay651 (F := Ideal) w (ix2 d n)) := by
  unfold kval kmag kint k0_pay652
  generalize k0_pay651 (F := Ideal) w = f
  pointwise [k0_pay653]

/-- A chunk's dequantised weights at an index. -/
theorem wQ_apply (w : Vec Ideal S128x512 .i8) (ws : Fin 16 → Vec Ideal S1x512 .f32) (d : Fin 256) (n : Fin 512) :
    wQ w ws (ix2 d n) = nval (w (ix2 ⟨d.val / 2, by omega⟩ n)) (d.val % 2) * ws ⟨d.val / 16, by omega⟩ (ix2 0 n) := by
  have h : wQ w ws (ix2 ⟨16 * (d.val / 16) + d.val % 16, by omega⟩ n)
      = k0_pay653 (F := Ideal) (k0_pay651 (F := Ideal) w) (k0_pay652 w) (ix2 ⟨16 * (d.val / 16) + d.val % 16, by omega⟩ n) * ws ⟨d.val / 16, by omega⟩ (ix2 0 n) := by
    unfold wQ
    refine (catW_apply _ ⟨d.val / 16, by omega⟩ ⟨d.val % 16, by omega⟩ n).trans ?_
    generalize k0_pay653 (F := Ideal) (k0_pay651 (F := Ideal) w) (k0_pay652 w) = f
    pointwise
  have hd : (⟨16 * (d.val / 16) + d.val % 16, by omega⟩ : Fin 256) = d := Fin.ext (by show 16 * (d.val / 16) + d.val % 16 = d.val; omega)
  rw [hd, pay653_apply, pay651_apply, kval_eq] at h
  exact h

/-- A packed code of a chunk of activations. -/
theorem pay38_apply (t : FVec Ideal S256x256 .f32) (j : Fin 128) (i : Fin 256) :
    k0_pay38 (cWordA t) (cWordB t) (ix2 j i) = cXP t (ix2 i j) := by
  unfold cXP
  generalize cWordA t = a
  generalize cWordB t = b
  unfold k0_pay39
  generalize k0_pay38 a b = f
  pointwise

/-- The kernel's value of a low code of the activations. -/
theorem pay40_low (a b : IVec S32x256 32) (j : Fin 128) (i : Fin 256) :
    k0_pay40 (F := Ideal) a b (ix2 ⟨2 * j.val, by omega⟩ i) = nval (k0_pay38 a b (ix2 j i)) 0 := by
  unfold nval k0_pay40
  rw [← kval_eq, ← low32]
  generalize k0_pay38 a b = f
  unfold kval kmag kint
  pointwise
  simp only [dif_pos (show 2 * j.val % 2 < 1 by omega)]

/-- The kernel's value of a high code of the activations. -/
theorem pay40_high (a b : IVec S32x256 32) (j : Fin 128) (i : Fin 256) :
    k0_pay40 (F := Ideal) a b (ix2 ⟨2 * j.val + 1, by omega⟩ i) = nval (k0_pay38 a b (ix2 j i)) 1 := by
  unfold nval k0_pay40
  rw [← kval_eq, ← high32]
  generalize k0_pay38 a b = f
  unfold kval kmag kint
  pointwise
  simp only [dif_neg (show ¬ (2 * j.val + 1) % 2 < 1 by omega)]

/-- The value of a code of a chunk of activations. -/
theorem cVals_apply (t : FVec Ideal S256x256 .f32) (d i : Fin 256) :
    cVals t (ix2 d i) = nval (cXP t (ix2 i ⟨d.val / 2, by omega⟩)) (d.val % 2) := by
  unfold cVals
  rw [← pay38_apply]
  generalize cWordA t = a
  generalize cWordB t = b
  rcases Nat.mod_two_eq_zero_or_one d.val with h | h
  · have e := pay40_low a b ⟨d.val / 2, by omega⟩ i
    have hd : (⟨2 * (d.val / 2), by omega⟩ : Fin 256) = d := Fin.ext (by show 2 * (d.val / 2) = d.val; omega)
    rw [h, ← e]
    exact congrArg (fun x => k0_pay40 (F := Ideal) a b (ix2 x i)) hd.symm
  · have e := pay40_high a b ⟨d.val / 2, by omega⟩ i
    have hd : (⟨2 * (d.val / 2) + 1, by omega⟩ : Fin 256) = d := Fin.ext (by show 2 * (d.val / 2) + 1 = d.val; omega)
    rw [h, ← e]
    exact congrArg (fun x => k0_pay40 (F := Ideal) a b (ix2 x i)) hd.symm

/-- A chunk's dequantised activations at an index. -/
theorem cXQ_apply (vals : FVec Ideal S256x256 .bf16) (pr : Fin 16 → Vec Ideal S1x256 .f32) (i d : Fin 256) :
    cXQ vals pr (ix2 i d) = vals (ix2 d i) * pr ⟨d.val / 16, by omega⟩ (ix2 0 i) := by
  have h : ∀ v : FVec Ideal S256x256 .bf16, shapeCast S256x256 (transpose S256x256 [1, 0] v transposes_S256x256_p1_0_S256x256) shapeCasts_S256x256_S256x256 (ix2 i d) = v (ix2 d i) := by
    intro v
    pointwise
  unfold cXQ
  refine (h _).trans ?_
  have e := cat_apply (fun k => mulf (extractStridedSlice S16x256 ![16 * k.val, 0] vals (slices256 k))
    (truncf .bf16 (broadcastTo S16x256 (shapeCast S1x256 (pr k) shapeCasts_S1x256_S1x256) broadcasts_S1x256_S16x256) bitsLt_bf16_f32)) ⟨d.val / 16, by omega⟩ ⟨d.val % 16, by omega⟩ i
  have hd : (⟨16 * (d.val / 16) + d.val % 16, by omega⟩ : Fin 256) = d := Fin.ext (by show 16 * (d.val / 16) + d.val % 16 = d.val; omega)
  have e2 : mulf (extractStridedSlice S16x256 ![16 * (d.val / 16), 0] vals (slices256 ⟨d.val / 16, by omega⟩))
    (truncf .bf16 (broadcastTo S16x256 (shapeCast S1x256 (pr ⟨d.val / 16, by omega⟩) shapeCasts_S1x256_S1x256) broadcasts_S1x256_S16x256) bitsLt_bf16_f32) (ix2 ⟨d.val % 16, by omega⟩ i)
      = vals (ix2 ⟨16 * (d.val / 16) + d.val % 16, by omega⟩ i) * pr ⟨d.val / 16, by omega⟩ (ix2 0 i) := by
    pointwise
  dsimp only at e
  rw [hd] at e e2
  exact e.trans e2

end Cert.KernelIdeal.Run

end
-- ==== Proof.Run.YRun.lean ====
/- The block of the first result each point stores. -/
module

public import proofs.«01_k».proof.Proof.Run.RunB
public import proofs.«01_k».proof.Proof.Run.ChunkRun

@[expose] public section

-- a rectangle of long axes is looked at once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The packed weights of chunk `k`. -/
def bW (k : Fin 12) : Rect S1536x512 :=
  Rect.unit (s := S1536x512) ![128 * k.val, 0] S128x512.size (by intro a; have := k.isLt; fin_cases a <;> simp [S1536x512, S128x512] <;> omega)

/-- Row `g` of the weights' scales of chunk `k`. -/
def bG (k : Fin 12) (g : Fin 16) : Rect S192x512 :=
  Rect.unit (s := S192x512) ![16 * k.val + g.val, 0] S1x512.size (by intro a; have := k.isLt; have := g.isLt; fin_cases a <;> simp [S192x512, S1x512] <;> omega)

/-- The packed weights of chunk `k`, loaded. -/
def wOf (arg6 : Memref sig .tc .vmem S1536x512 .i8) (harg6 : arg6.IsWhole) (x5 : Vec F S1536x512 .i8) (k : Fin 12) : Vec F S128x512 .i8 :=
  View.readAt (Elt F) arg6.view (bW k).toLoadRect (harg6.unread x5)

/-- The rows of the weights' scales, widened, stored and read back. -/
def wsOf (arg7 : Memref sig .tc .vmem S192x512 .fp8e4m3) (harg7 : arg7.IsWhole) (arg19 : Memref sig .tc .vmem S192x512 .f32) (x6 : Vec F S192x512 .fp8e4m3) (k : Fin 12) (g : Fin 16) : Vec F S1x512 .f32 :=
  arg19.view.readCov [⟨Rect.unit (s := S192x512) ![0, 0] S192x512.size inb_S192x512_S192x512_0_0, k0_pay650 (View.readAt (Elt F) arg7.view (Rect.unit (s := S192x512) ![0, 0] S192x512.size inb_S192x512_S192x512_0_0).toLoadRect (harg7.unread x6))⟩] (bG k g).toLoadRect

/-- The low-rank factor, loaded. -/
def lupOf (arg8 : Memref sig .tc .vmem S32x512 .bf16) (harg8 : arg8.IsWhole) (x7 : Vec F S32x512 .bf16) : Vec F S32x512 .bf16 :=
  View.readAt (Elt F) arg8.view (Rect.unit (s := S32x512) ![0, 0] S32x512.size inb_S32x512_S32x512_0_0).toLoadRect (harg8.unread x7)

/-- The bias, loaded. -/
def biasOf (arg9 : Memref sig .tc .vmem S1x512 .f32) (harg9 : arg9.IsWhole) (x8 : Vec F S1x512 .f32) : Vec F S1x512 .f32 :=
  View.readAt (Elt F) arg9.view (Rect.unit (s := S1x512) ![0, 0] S1x512.size inb_S1x512_S1x512_0_0).toLoadRect (harg9.unread x8)

section
variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec F S1 .f32) (x1 : Vec F S1 .f32) (x2 : Vec F S256x3072 .bf16) (x3 : Vec F S1x3072 .f32) (x4 : Vec F S3072x32 .bf16) (x5 : Vec F S1536x512 .i8) (x6 : Vec F S192x512 .fp8e4m3) (x7 : Vec F S32x512 .bf16) (x8 : Vec F S1x512 .f32)
variable (xo10 : Vec F S256x1536 .i8) (xo11 : Vec F S256x192 .fp8e4m3) (xs0 : Vec F S256x3072 .bf16) (xs1 : Vec F S256x32 .bf16)

/-- What a later point stores of the first result. -/
theorem runB_y (hc1 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x1 x2 x3 x4 x5 x6 x7 x8 xo10 xo11 xs0 xs1).1
    = [⟨Rect.unit (s := S256x512) ![0, 0] S256x512.size inb_S256x512_S256x512_0_0, yOf (xgOf arg1 harg1 x0) (xgOf arg2 harg2 x1) (fun k => View.readAt (Elt F) arg13.view (bX k).toLoadRect (harg13.unread xs0)) (wOf arg6 harg6 x5) (wsOf arg7 harg7 arg19 x6)
        (View.readAt (Elt F) arg14.view (Rect.unit (s := S256x32) ![0, 0] S256x32.size inb_S256x32_S256x32_0_0).toLoadRect (harg14.unread xs1)) (lupOf arg8 harg8 x7) (biasOf arg9 harg9 x8)⟩] := by
  sl_kernel_rfl

/-- What the first point stores of the first result. -/
theorem runA_y (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1
    = [⟨Rect.unit (s := S256x512) ![0, 0] S256x512.size inb_S256x512_S256x512_0_0, yOf (xgOf arg1 harg1 x0) (xgOf arg2 harg2 x1) (fun k => arg13.view.readCov (lists arg1 harg1 arg3 harg3 arg4 harg4 arg15 arg16 arg17 x0 x2 x3).LQ (bX k).toLoadRect) (wOf arg6 harg6 x5) (wsOf arg7 harg7 arg19 x6)
        (arg14.view.readCov [⟨Rect.unit (s := S256x32) ![0, 0] S256x32.size inb_S256x32_S256x32_0_0, k0_pay648 (hSum (xcOf arg3 harg3 x2) (scOf arg4 harg4 x3) (lcOf arg5 harg5 x4))⟩] (Rect.unit (s := S256x32) ![0, 0] S256x32.size inb_S256x32_S256x32_0_0).toLoadRect) (lupOf arg8 harg8 x7) (biasOf arg9 harg9 x8)⟩] := by
  sl_kernel_rfl

end

end Cert.KernelIdeal.Run

end
-- ==== Proof.Run.YValue.lean ====
/- The first result's block, element by element. -/
module

public import proofs.«01_k».proof.Proof.Run.WQ
public import proofs.«01_k».proof.Proof.Run.YRun
@[expose] public section
set_option maxRecDepth 16384
noncomputable section
namespace Cert.KernelIdeal.Run
open Cert.KernelIdeal Cert.KernelIdeal.Gen
open Idealize.ShloMosaic Idealize.ShloMosaic.TcCoe Idealize.ShloMosaic.Tactic
open Cert.Code

/-- The bits of zero. -/
theorem zero32 : Ideal.ofBits .f32 0x00000000#32 = 0 := by simp [Ideal.ofBits, Ideal.ieee]

/-- A chunk's product at an index. -/
theorem wDot_apply (xq : Vec Ideal S256x256 .bf16) (w : Vec Ideal S128x512 .i8) (ws : Fin 16 → Vec Ideal S1x512 .f32) (i : Fin 256) (n : Fin 512) :
    wDot xq w ws (ix2 i n) = ∑ e : Fin 256, xq (ix2 i e) * wQ w ws (ix2 e n) := by
  unfold wDot
  generalize wQ w ws = f
  pointwise

/-- The first result's block at an index. -/
theorem yOf_apply (xg wg : EReal) (xq : Fin 12 → Vec Ideal S256x256 .bf16) (w : Fin 12 → Vec Ideal S128x512 .i8) (ws : Fin 12 → Fin 16 → Vec Ideal S1x512 .f32)
    (h : Vec Ideal S256x32 .bf16) (lup : Vec Ideal S32x512 .bf16) (bias : Vec Ideal S1x512 .f32) (i : Fin 256) (n : Fin 512) (A B : Fin 3072 → EReal)
    (hA : ∀ (k : Fin 12) (e : Fin 256), xq k (ix2 i e) = A ⟨256 * k.val + e.val, by omega⟩)
    (hB : ∀ (k : Fin 12) (e : Fin 256), wQ (w k) (ws k) (ix2 e n) = B ⟨256 * k.val + e.val, by omega⟩) :
    yOf (F := Ideal) xg wg xq w ws h lup bias (ix2 i n) = ((∑ d, A d * B d) * (xg * wg) + ∑ r : Fin 32, h (ix2 i r) * lup (ix2 r n)) + bias (ix2 0 n) := by
  have hd : ∀ k, wDot (xq k) (w k) (ws k) (ix2 i n) = ∑ e : Fin 256, A ⟨256 * k.val + e.val, by omega⟩ * B ⟨256 * k.val + e.val, by omega⟩ := by
    intro k
    rw [wDot_apply]
    exact Finset.sum_congr rfl fun e _ => by rw [hA, hB]
  rw [Cert.Spec.sum_chunks, Cert.Spec.sum12]
  simp only [← hd]
  unfold yOf yAcc
  generalize wDot (xq 0) (w 0) (ws 0) = f0
  generalize wDot (xq 1) (w 1) (ws 1) = f1
  generalize wDot (xq 2) (w 2) (ws 2) = f2
  generalize wDot (xq 3) (w 3) (ws 3) = f3
  generalize wDot (xq 4) (w 4) (ws 4) = f4
  generalize wDot (xq 5) (w 5) (ws 5) = f5
  generalize wDot (xq 6) (w 6) (ws 6) = f6
  generalize wDot (xq 7) (w 7) (ws 7) = f7
  generalize wDot (xq 8) (w 8) (ws 8) = f8
  generalize wDot (xq 9) (w 9) (ws 9) = f9
  generalize wDot (xq 10) (w 10) (ws 10) = f10
  generalize wDot (xq 11) (w 11) (ws 11) = f11
  pointwise [k0_pay1]

/-- The first chunk of the low-rank factor at an index. -/
theorem pay3_apply (xc : Vec Ideal S256x256 .bf16) (sc : Vec Ideal S1x256 .f32) (lc : Vec Ideal S256x32 .bf16) (i : Fin 256) (r : Fin 32) :
    k0_pay3 (F := Ideal) xc sc lc (ix2 i r) = ∑ e : Fin 256, xc (ix2 i e) * sc (ix2 0 e) * lc (ix2 e r) := by
  pointwise [k0_pay3, k0_pay2]

/-- A later chunk of the low-rank factor at an index. -/
theorem pay59_apply (f : FVec Ideal S256x32 .f32) (xc : Vec Ideal S256x256 .bf16) (sc : Vec Ideal S1x256 .f32) (lc : Vec Ideal S256x32 .bf16) (i : Fin 256) (r : Fin 32) :
    k0_pay59 (F := Ideal) f xc sc lc (ix2 i r) = f (ix2 i r) + ∑ e : Fin 256, xc (ix2 i e) * sc (ix2 0 e) * lc (ix2 e r) := by
  pointwise [k0_pay59, k0_pay58]

/-- The low-rank factor at an index. -/
theorem hSum_apply (xc : Fin 12 → Vec Ideal S256x256 .bf16) (sc : Fin 12 → Vec Ideal S1x256 .f32) (lc : Fin 12 → Vec Ideal S256x32 .bf16) (i : Fin 256) (r : Fin 32) (A : Fin 3072 → EReal)
    (hA : ∀ (k : Fin 12) (e : Fin 256), xc k (ix2 i e) * sc k (ix2 0 e) * lc k (ix2 e r) = A ⟨256 * k.val + e.val, by omega⟩) :
    hSum (F := Ideal) xc sc lc (ix2 i r) = ∑ d, A d := by
  rw [Cert.Spec.sum_chunks, Cert.Spec.sum12]
  unfold hSum
  simp only [pay59_apply, pay3_apply, hA]

/-- The stored scales at an index. -/
theorem pay16_apply (a : FVec Ideal S16x256 .f32) (g : Fin 16) (i : Fin 256) : k0_pay16 (F := Ideal) a (ix2 g i) = Cert.Spec.scaleOf (a (ix2 g i)) := by
  pointwise [k0_pay16, k0_pay14]
  rfl

/-- A row of scales, read back. -/
theorem pr_apply (v15 : View sig .tc .vmem S2x256x128 .f32) (v17 : View sig .tc .vmem S16x256 .f32) (L2 L4) (xg : EReal) (xc : Vec Ideal S256x256 .bf16) (sc) (g : Fin 16) (i : Fin 256) :
    v17.readCov (hPr (F := Ideal) v15 L2 L4 xg xc sc) (rBox g).toLoadRect (ix2 0 i) = k0_pay16 (F := Ideal) (aR v15 L2 xg xc sc) (ix2 g i) := by
  rw [View.readCov_eq_canon']
  have hx : (rBox g).toLoadRect.idx (ix2 0 i) = (Rect.unit (s := S16x256) ![0, 0] S16x256.size inb_S16x256_S16x256_0_0).emb (ix2 g i) := by
    funext a; refine Fin.ext ?_
    match a with
    | ⟨0, _⟩ => show g.val + 1 * 0 = 0 + 1 * g.val; omega
    | ⟨1, _⟩ => rfl
  exact (congrArg (View.canon _) hx).trans (View.canon_cons_emb _ _ _ _)

/-- What a chunk's dequantised activations are of the whole. -/
theorem chunk_xq (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (v15 : View sig .tc .vmem S2x256x128 .f32) (v16 v17 : View sig .tc .vmem S16x256 .f32) (L2 L3 L4)
    (x0 : Vec Ideal S1 .f32) (x2 : Vec Ideal S256x3072 .bf16) (x3 : Vec Ideal S1x3072 .f32) (k : Fin 12) (i d : Fin 256) :
    xqR (F := Ideal) v15 v16 v17 L2 L3 L4 (xgOf arg1 harg1 x0) (xcOf arg3 harg3 x2 k) (scOf arg4 harg4 x3 k) (ix2 i d) = Cert.Spec.xq x2 x3 (x0 (ix1 0)) i ⟨256 * k.val + d.val, by omega⟩ := by
  have hb := chunk_byte arg1 harg1 arg3 harg3 arg4 harg4 v15 v16 L2 L3 x0 x2 x3 k i ⟨d.val / 2, by omega⟩
  have h1 : (⟨128 * k.val + d.val / 2, by omega⟩ : Fin 1536) = ⟨(256 * k.val + d.val) / 2, by omega⟩ := Fin.ext (by show 128 * k.val + d.val / 2 = (256 * k.val + d.val) / 2; omega)
  have h2 : (⟨16 * k.val + d.val / 16, by omega⟩ : Fin 192) = ⟨(256 * k.val + d.val) / 16, by omega⟩ := Fin.ext (by show 16 * k.val + d.val / 16 = (256 * k.val + d.val) / 16; omega)
  have h3 : d.val % 2 = (256 * k.val + d.val) % 2 := by omega
  unfold xqR Cert.Spec.xq
  refine (cXQ_apply _ _ i d).trans ?_
  refine congrArg₂ (fun a b : EReal => a * b) ((cVals_apply _ d i).trans ?_) ((pr_apply v15 v17 L2 L4 _ _ _ ⟨d.val / 16, by omega⟩ i).trans ?_)
  · refine (congrArg (fun b => nval b (d.val % 2)) hb).trans ?_
    dsimp only
    rw [h1, h3]
  · rw [pay16_apply, aR_apply]
    refine (chunk_scale arg1 harg1 arg3 harg3 arg4 harg4 x0 x2 x3 k ⟨d.val / 16, by omega⟩ i).trans ?_
    dsimp only
    rw [h2]

/-- A column before a chunk's is outside it. -/
theorem bX_not_mem (k : Fin 12) (i : Fin 256) (d : Fin 3072) (h : d.val < 256 * k.val) : (ix2 i d : S256x3072.Idx) ∉ (bX k).set := by
  unfold bX
  rw [Rect.mem_set_unit]
  intro hh
  have h2 : 256 * k.val ≤ d.val := (hh 1).1
  omega

/-- The columns of activations the first `n` chunks stored are `G`'s. -/
def LQok (l : Lists Ideal) (n : ℕ) (G : Fin 256 → Fin 3072 → EReal) : Prop :=
  ∀ (i : Fin 256) (d : Fin 3072), d.val < 256 * n → View.canon (Val := Elt Ideal) l.LQ (ix2 i d) = G i d

/-- A chunk adds its columns of activations and keeps the earlier ones. -/
theorem step_LQ (v15 : View sig .tc .vmem S2x256x128 .f32) (v16 v17 : View sig .tc .vmem S16x256 .f32) (xg : EReal)
    (xc : Fin 12 → Vec Ideal S256x256 .bf16) (sc : Fin 12 → Vec Ideal S1x256 .f32) (l : Lists Ideal) (k : Fin 12) (G : Fin 256 → Fin 3072 → EReal)
    (h : ∀ (i d : Fin 256), xqR (F := Ideal) v15 v16 v17 l.L2 l.L3 l.L4 xg (xc k) (sc k) (ix2 i d) = G i ⟨256 * k.val + d.val, by omega⟩) (hl : LQok l k.val G) :
    LQok (step (F := Ideal) v15 v16 v17 xg xc sc l k) (k.val + 1) G := by
  intro i d hr
  show View.canon (Val := Elt Ideal) ((⟨bX k, xqR (F := Ideal) v15 v16 v17 l.L2 l.L3 l.L4 xg (xc k) (sc k)⟩ : View.Piece (Elt Ideal) S256x3072 .bf16) :: l.LQ) (ix2 i d) = G i d
  by_cases hk : d.val < 256 * k.val
  · have hn := bX_not_mem k i d hk
    exact (View.canon_cons_of_not_mem (Val := Elt Ideal) (⟨bX k, xqR (F := Ideal) v15 v16 v17 l.L2 l.L3 l.L4 xg (xc k) (sc k)⟩ : View.Piece (Elt Ideal) S256x3072 .bf16) l.LQ hn).trans (hl i d hk)
  · have hy : (ix2 i d : S256x3072.Idx) = (bX k).emb (ix2 i (⟨d.val - 256 * k.val, by omega⟩ : Fin 256)) := by
      funext a; refine Fin.ext ?_
      match a with
      | ⟨0, _⟩ => show i.val = 0 + 1 * i.val; omega
      | ⟨1, _⟩ => show d.val = 256 * k.val + 1 * (d.val - 256 * k.val); omega
    rw [hy]
    refine (View.canon_cons_emb (bX k) _ _ _).trans ?_
    refine (h i _).trans ?_
    congr 1
    exact Fin.ext (by show 256 * k.val + (d.val - 256 * k.val) = d.val; omega)

/-- The dequantised activations the twelve chunks store. -/
theorem lists_LQ (arg1 : Memref sig .tc .smem S1 .f32) (harg1 : arg1.IsWhole) (arg3 : Memref sig .tc .vmem S256x3072 .bf16) (harg3 : arg3.IsWhole) (arg4 : Memref sig .tc .vmem S1x3072 .f32) (harg4 : arg4.IsWhole)
    (arg15 : Memref sig .tc .vmem S2x256x128 .f32) (arg16 arg17 : Memref sig .tc .vmem S16x256 .f32)
    (x0 : Vec Ideal S1 .f32) (x2 : Vec Ideal S256x3072 .bf16) (x3 : Vec Ideal S1x3072 .f32) :
    LQok (lists arg1 harg1 arg3 harg3 arg4 harg4 arg15 arg16 arg17 x0 x2 x3) 12 fun i d => Cert.Spec.xq x2 x3 (x0 (ix1 0)) i d := by
  have s := fun (k : Fin 12) (l : Lists Ideal) (hl) => step_LQ arg15.view arg16.view arg17.view (xgOf arg1 harg1 x0) (xcOf arg3 harg3 x2) (scOf arg4 harg4 x3) l k
    (fun i d => Cert.Spec.xq x2 x3 (x0 (ix1 0)) i d) (fun i d => chunk_xq arg1 harg1 arg3 harg3 arg4 harg4 arg15.view arg16.view arg17.view l.L2 l.L3 l.L4 x0 x2 x3 k i d) hl
  exact s 11 _ (s 10 _ (s 9 _ (s 8 _ (s 7 _ (s 6 _ (s 5 _ (s 4 _ (s 3 _ (s 2 _ (s 1 _ (s 0 init fun i r h => absurd h (Nat.not_lt_zero _))))))))))))

/-- A chunk of the low-rank factor's weights at an index. -/
theorem lcOf_apply (arg5 : Memref sig .tc .vmem S3072x32 .bf16) (harg5 : arg5.IsWhole) (x4 : Vec Ideal S3072x32 .bf16) (k : Fin 12) (e : Fin 256) (r : Fin 32) :
    lcOf arg5 harg5 x4 k (ix2 e r) = x4 (ix2 ⟨256 * k.val + e.val, by omega⟩ r) := by
  unfold lcOf
  rw [readAt_unread]
  refine congrArg x4 ?_
  funext a; refine Fin.ext ?_
  match a with
  | ⟨0, _⟩ => show 256 * k.val + 1 * e.val = 256 * k.val + e.val; omega
  | ⟨1, _⟩ => show 0 + 1 * r.val = r.val; omega

/-- The low-rank factor the first point computes. -/
theorem low_apply (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole)
    (x2 : Vec Ideal S256x3072 .bf16) (x3 : Vec Ideal S1x3072 .f32) (x4 : Vec Ideal S3072x32 .bf16) (i : Fin 256) (r : Fin 32) :
    k0_pay648 (F := Ideal) (hSum (xcOf arg3 harg3 x2) (scOf arg4 harg4 x3) (lcOf arg5 harg5 x4)) (ix2 i r) = Cert.Spec.low x2 x3 x4 i r := by
  have h : ∀ f : FVec Ideal S256x32 .f32, k0_pay648 (F := Ideal) f (ix2 i r) = f (ix2 i r) := by
    intro f
    pointwise [k0_pay648]
  refine (h _).trans ?_
  unfold Cert.Spec.low Cert.Spec.xs
  exact hSum_apply _ _ _ i r (fun d => x2 (ix2 i d) * x3 (ix2 0 d) * x4 (ix2 d r)) fun k e => by
    rw [xcOf_apply, scOf_apply, lcOf_apply]

/-- A chunk of the packed weights at an index. -/
theorem wOf_apply (arg6 : Memref sig .tc .vmem S1536x512 .i8) (harg6 : arg6.IsWhole) (x5 : Vec Ideal S1536x512 .i8) (k : Fin 12) (e : Fin 128) (n : Fin 512) :
    wOf arg6 harg6 x5 k (ix2 e n) = x5 (ix2 ⟨128 * k.val + e.val, by omega⟩ n) := by
  unfold wOf
  rw [readAt_unread]
  refine congrArg x5 ?_
  funext a; refine Fin.ext ?_
  match a with
  | ⟨0, _⟩ => show 128 * k.val + 1 * e.val = 128 * k.val + e.val; omega
  | ⟨1, _⟩ => show 0 + 1 * n.val = n.val; omega

/-- A row of the weights' scales at an index. -/
theorem wsOf_apply (arg7 : Memref sig .tc .vmem S192x512 .fp8e4m3) (harg7 : arg7.IsWhole) (arg19 : Memref sig .tc .vmem S192x512 .f32) (x6 : Vec Ideal S192x512 .fp8e4m3) (k : Fin 12) (g : Fin 16) (n : Fin 512) :
    @Eq EReal (wsOf arg7 harg7 arg19 x6 k g (ix2 0 n)) (x6 (ix2 ⟨16 * k.val + g.val, by omega⟩ n)) := by
  have h : ∀ f : Vec Ideal S192x512 .fp8e4m3, ∀ j, @Eq EReal (k0_pay650 (F := Ideal) f (ix2 j n)) (f (ix2 j n)) := by
    intro f j
    pointwise [k0_pay650]
  unfold wsOf
  rw [View.readCov_eq_canon']
  have hx : (bG k g).toLoadRect.idx (ix2 0 n) = (Rect.unit (s := S192x512) ![0, 0] S192x512.size inb_S192x512_S192x512_0_0).emb (ix2 (⟨16 * k.val + g.val, by omega⟩ : Fin 192) n) := by
    funext a; refine Fin.ext ?_
    match a with
    | ⟨0, _⟩ => show 16 * k.val + g.val + 1 * 0 = 0 + 1 * (16 * k.val + g.val); omega
    | ⟨1, _⟩ => rfl
  refine ((congrArg (View.canon _) hx).trans (View.canon_cons_emb _ _ _ _)).trans ?_
  refine (h _ _).trans ?_
  rw [readAt_unread]
  refine congrArg x6 ?_
  funext a; refine Fin.ext ?_
  match a with
  | ⟨0, _⟩ => show 0 + 1 * (16 * k.val + g.val) = 16 * k.val + g.val; omega
  | ⟨1, _⟩ => show 0 + 1 * n.val = n.val; omega

/-- The second low-rank factor, as loaded. -/
theorem lupOf_apply (arg8 : Memref sig .tc .vmem S32x512 .bf16) (harg8 : arg8.IsWhole) (x7 : Vec Ideal S32x512 .bf16) (r : Fin 32) (n : Fin 512) :
    lupOf arg8 harg8 x7 (ix2 r n) = x7 (ix2 r n) := by
  unfold lupOf
  rw [readAt_unread]
  refine congrArg x7 ?_
  funext a; refine Fin.ext ?_
  match a with
  | ⟨0, _⟩ => show 0 + 1 * r.val = r.val; omega
  | ⟨1, _⟩ => show 0 + 1 * n.val = n.val; omega

/-- The bias, as loaded. -/
theorem biasOf_apply (arg9 : Memref sig .tc .vmem S1x512 .f32) (harg9 : arg9.IsWhole) (x8 : Vec Ideal S1x512 .f32) (n : Fin 512) :
    biasOf arg9 harg9 x8 (ix2 0 n) = x8 (ix2 0 n) := by
  unfold biasOf
  rw [readAt_unread]
  refine congrArg x8 ?_
  funext a; refine Fin.ext ?_
  match a with
  | ⟨0, _⟩ => rfl
  | ⟨1, _⟩ => show 0 + 1 * n.val = n.val; omega

/-- The first result's block at an index, of what the point loads. -/
theorem block_apply (arg1 : Memref sig .tc .smem S1 .f32) (harg1 : arg1.IsWhole) (arg2 : Memref sig .tc .smem S1 .f32) (harg2 : arg2.IsWhole)
    (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg19 : Memref sig .tc .vmem S192x512 .f32)
    (x0 x1 : Vec Ideal S1 .f32) (x2 : Vec Ideal S256x3072 .bf16) (x3 : Vec Ideal S1x3072 .f32) (x4 : Vec Ideal S3072x32 .bf16) (x5 : Vec Ideal S1536x512 .i8) (x6 : Vec Ideal S192x512 .fp8e4m3) (x7 : Vec Ideal S32x512 .bf16) (x8 : Vec Ideal S1x512 .f32)
    (xq : Fin 12 → Vec Ideal S256x256 .bf16) (h : Vec Ideal S256x32 .bf16)
    (hq : ∀ (k : Fin 12) (i e : Fin 256), xq k (ix2 i e) = Cert.Spec.xq x2 x3 (x0 (ix1 0)) i ⟨256 * k.val + e.val, by omega⟩)
    (hh : ∀ (i : Fin 256) (r : Fin 32), h (ix2 i r) = Cert.Spec.low x2 x3 x4 i r) (i : Fin 256) (n : Fin 512) :
    yOf (F := Ideal) (xgOf arg1 harg1 x0) (xgOf arg2 harg2 x1) xq (wOf arg6 harg6 x5) (wsOf arg7 harg7 arg19 x6) h (lupOf arg8 harg8 x7) (biasOf arg9 harg9 x8) (ix2 i n)
      = Cert.Spec.y x2 x3 (x0 (ix1 0)) (x1 (ix1 0)) x4 i (fun r => x5 (ix2 r n)) (fun g => x6 (ix2 g n)) (fun r => x7 (ix2 r n)) (x8 (ix2 0 n)) := by
  refine (yOf_apply _ _ _ _ _ _ _ _ i n (fun d => Cert.Spec.xq x2 x3 (x0 (ix1 0)) i d) (fun d => Cert.Spec.wq (fun r => x5 (ix2 r n)) (fun g => x6 (ix2 g n)) d) (fun k e => hq k i e) fun k e => ?_).trans ?_
  · rw [wQ_apply, wOf_apply, wsOf_apply]
    unfold Cert.Spec.wq
    have h1 : (⟨128 * k.val + e.val / 2, by omega⟩ : Fin 1536) = ⟨(256 * k.val + e.val) / 2, by omega⟩ := Fin.ext (by show 128 * k.val + e.val / 2 = (256 * k.val + e.val) / 2; omega)
    have h2 : (⟨16 * k.val + e.val / 16, by omega⟩ : Fin 192) = ⟨(256 * k.val + e.val) / 16, by omega⟩ := Fin.ext (by show 16 * k.val + e.val / 16 = (256 * k.val + e.val) / 16; omega)
    have h3 : e.val % 2 = (256 * k.val + e.val) % 2 := by omega
    dsimp only
    rw [h1, h2, h3]
  · unfold Cert.Spec.y
    rw [xgOf_eq, xgOf_eq, biasOf_apply]
    simp only [hh, lupOf_apply]

section
variable (c : Dev nD) (i : grid0.Coords) (arg1 : Memref sig .tc .smem S1 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S1x3072 .f32) (harg4 : arg4.IsWhole) (arg5 : Memref sig .tc .vmem S3072x32 .bf16) (harg5 : arg5.IsWhole) (arg6 : Memref sig .tc .vmem S1536x512 .i8) (harg6 : arg6.IsWhole) (arg7 : Memref sig .tc .vmem S192x512 .fp8e4m3) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x32 .bf16) (harg14 : arg14.IsWhole) (arg15 : Memref sig .tc .vmem S2x256x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S192x256 .f32) (harg18 : arg18.IsWhole) (arg19 : Memref sig .tc .vmem S192x512 .f32) (harg19 : arg19.IsWhole)
variable (x0 : Vec Ideal S1 .f32) (x1 : Vec Ideal S1 .f32) (x2 : Vec Ideal S256x3072 .bf16) (x3 : Vec Ideal S1x3072 .f32) (x4 : Vec Ideal S3072x32 .bf16) (x5 : Vec Ideal S1536x512 .i8) (x6 : Vec Ideal S192x512 .fp8e4m3) (x7 : Vec Ideal S32x512 .bf16) (x8 : Vec Ideal S1x512 .f32)
variable (xo10 : Vec Ideal S256x1536 .i8) (xo11 : Vec Ideal S256x192 .fp8e4m3) (xs0 : Vec Ideal S256x3072 .bf16) (xs1 : Vec Ideal S256x32 .bf16)

/-- What the first point leaves of the dequantised activations. -/
theorem sout0_A_0_apply (hc0 : cond0_0 i) (y : Fin 256) (d : Fin 3072) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0 (ix2 y d) = Cert.Spec.xq x2 x3 (x0 (ix1 0)) y d := by
  unfold sout0_A_0
  rw [View.read_writes_junk_eq_canon, runA_xq]
  exact lists_LQ arg1 harg1 arg3 harg3 arg4 harg4 arg15 arg16 arg17 x0 x2 x3 y d d.isLt

/-- What the first point leaves of the low-rank factor. -/
theorem sout0_A_1_apply (hc0 : cond0_0 i) (y : Fin 256) (r : Fin 32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0 (ix2 y r) = Cert.Spec.low x2 x3 x4 y r := by
  unfold sout0_A_1
  rw [View.read_writes_junk_eq_canon, runA_h]
  have hz : (![0, 0] : Fin S256x32.rank → ℕ) = fun _ => 0 := by funext a; fin_cases a <;> rfl
  rw [View.canon_unit_zero hz]
  exact low_apply arg3 harg3 arg4 harg4 arg5 harg5 x2 x3 x4 y r

/-- What the first point leaves of the first result. -/
theorem out0_A_9_apply (hc0 : cond0_0 i) (y : Fin 256) (n : Fin 512) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 hc0 (ix2 y n)
      = Cert.Spec.y x2 x3 (x0 (ix1 0)) (x1 (ix1 0)) x4 y (fun r => x5 (ix2 r n)) (fun g => x6 (ix2 g n)) (fun r => x7 (ix2 r n)) (x8 (ix2 0 n)) := by
  unfold out0_A_9
  rw [View.read_writes_junk_eq_canon, runA_y]
  have hz : (![0, 0] : Fin S256x512.rank → ℕ) = fun _ => 0 := by funext a; fin_cases a <;> rfl
  rw [View.canon_unit_zero hz]
  refine block_apply arg1 harg1 arg2 harg2 arg6 harg6 arg7 harg7 arg8 harg8 arg9 harg9 arg19 x0 x1 x2 x3 x4 x5 x6 x7 x8 _ _ (fun k y e => ?_) (fun y r => ?_) y n
  · rw [View.readCov_eq_canon']
    have hx : (bX k).toLoadRect.idx (ix2 y e) = (ix2 y ⟨256 * k.val + e.val, by omega⟩ : S256x3072.Idx) := by
      funext a; refine Fin.ext ?_
      match a with
      | ⟨0, _⟩ => show 0 + 1 * y.val = y.val; omega
      | ⟨1, _⟩ => show 256 * k.val + 1 * e.val = 256 * k.val + e.val; omega
    exact (congrArg (View.canon _) hx).trans (lists_LQ arg1 harg1 arg3 harg3 arg4 harg4 arg15 arg16 arg17 x0 x2 x3 y ⟨256 * k.val + e.val, by omega⟩ (by show 256 * k.val + e.val < 256 * 12; omega))
  · rw [View.readCov_eq_canon']
    have hx : (Rect.unit (s := S256x32) ![0, 0] S256x32.size inb_S256x32_S256x32_0_0).toLoadRect.idx (ix2 y r) = (Rect.unit (s := S256x32) ![0, 0] S256x32.size inb_S256x32_S256x32_0_0).emb (ix2 y r) := rfl
    exact ((congrArg (View.canon _) hx).trans (View.canon_cons_emb _ _ _ _)).trans (low_apply arg3 harg3 arg4 harg4 arg5 harg5 x2 x3 x4 y r)

/-- What a later point leaves of the first result. -/
theorem out0_B_9_apply (hc1 : ¬cond0_0 i) (hq : ∀ (y : Fin 256) (d : Fin 3072), xs0 (ix2 y d) = Cert.Spec.xq x2 x3 (x0 (ix1 0)) y d) (hh : ∀ (y : Fin 256) (r : Fin 32), xs1 (ix2 y r) = Cert.Spec.low x2 x3 x4 y r) (y : Fin 256) (n : Fin 512) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 xo10 xo11 xs0 xs1 hc1 (ix2 y n)
      = Cert.Spec.y x2 x3 (x0 (ix1 0)) (x1 (ix1 0)) x4 y (fun r => x5 (ix2 r n)) (fun g => x6 (ix2 g n)) (fun r => x7 (ix2 r n)) (x8 (ix2 0 n)) := by
  unfold out0_B_9
  rw [View.read_writes_junk_eq_canon, runB_y]
  have hz : (![0, 0] : Fin S256x512.rank → ℕ) = fun _ => 0 := by funext a; fin_cases a <;> rfl
  rw [View.canon_unit_zero hz]
  refine block_apply arg1 harg1 arg2 harg2 arg6 harg6 arg7 harg7 arg8 harg8 arg9 harg9 arg19 x0 x1 x2 x3 x4 x5 x6 x7 x8 _ _ (fun k y e => ?_) (fun y r => ?_) y n
  · rw [readAt_unread]
    refine Eq.trans (congrArg xs0 ?_) (hq y ⟨256 * k.val + e.val, by omega⟩)
    funext a; refine Fin.ext ?_
    match a with
    | ⟨0, _⟩ => show 0 + 1 * y.val = y.val; omega
    | ⟨1, _⟩ => show 256 * k.val + 1 * e.val = 256 * k.val + e.val; omega
  · rw [readAt_unread]
    refine Eq.trans (congrArg xs1 ?_) (hh y r)
    funext a; refine Fin.ext ?_
    match a with
    | ⟨0, _⟩ => show 0 + 1 * y.val = y.val; omega
    | ⟨1, _⟩ => show 0 + 1 * r.val = r.val; omega
end

end Cert.KernelIdeal.Run

end
-- ==== Proof.Run.YArr.lean ====
/- What the region leaves in the array of the first result. -/
module

public import proofs.«01_k».proof.Proof.Run.YValue
public import proofs.«01_k».proof.Proof.Run.Coded
@[expose] public section
set_option maxRecDepth 16384
noncomputable section
namespace Cert.KernelIdeal.Run
open Cert.KernelIdeal Cert.KernelIdeal.Gen
open Idealize.ShloMosaic Idealize.ShloMosaic.TcCoe Idealize.ShloMosaic.Tactic
open Idealize.ShloMosaic.Pipeline Idealize.SL.Sem

section
variable {F : FTy → Type} [FloatOps F] (m : (ℓ : Loc nD τ sig) → Buf (Elt F) ℓ)

/-- What the region finds in `main_v1`. -/
theorem V_main_v1 (c : Dev nD) : V m c main_v1 = shapeCast S1 (m ((c : Thread nD τ).loc main_arg5)) shapeCasts_S_S1 := by
  show StableHlo.after hostOps0 _ (Proc.devRef .tc main_v1) = _
  after_results
  rfl
/-- What the region finds in `main_v4`. -/
theorem V_main_v4 (c : Dev nD) : V m c main_v4 = shapeCast S1x12288 (m ((c : Thread nD τ).loc main_arg8)) shapeCasts_S12288_S1x12288 := by
  show StableHlo.after hostOps0 _ (Proc.devRef .tc main_v4) = _
  after_results
  rfl
/-- What the region finds in `main_arg3`. -/
theorem V_main_arg3 (c : Dev nD) : V m c main_arg3 = m ((c : Thread nD τ).loc main_arg3) := by
  show StableHlo.after hostOps0 _ (Proc.devRef .tc main_arg3) = _
  after_results
/-- What the region finds in `main_arg4`. -/
theorem V_main_arg4 (c : Dev nD) : V m c main_arg4 = m ((c : Thread nD τ).loc main_arg4) := by
  show StableHlo.after hostOps0 _ (Proc.devRef .tc main_arg4) = _
  after_results
/-- What the region finds in `main_arg6`. -/
theorem V_main_arg6 (c : Dev nD) : V m c main_arg6 = m ((c : Thread nD τ).loc main_arg6) := by
  show StableHlo.after hostOps0 _ (Proc.devRef .tc main_arg6) = _
  after_results
/-- What the region finds in `main_arg7`. -/
theorem V_main_arg7 (c : Dev nD) : V m c main_arg7 = m ((c : Thread nD τ).loc main_arg7) := by
  show StableHlo.after hostOps0 _ (Proc.devRef .tc main_arg7) = _
  after_results
/-- Window 1's block is its array. -/
theorem read_1 (t : Fin cfg0.N) (c : Dev nD) (f : Buf (Elt F) ((c : Thread nD τ).loc main_v1)) : (win0_1.blk t).view.read (Elt F) f = f :=
  Memref.read_access_unit_zero (Elt F) main_v1
    (show (fun a => (win0_1.index t) a * main_v1.ty.shape.size a) = fun _ => 0 from
      funext fun a => by first | (have : win0_1.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 1's block at a point is what the region finds in its array. -/
theorem iblk_1 (c : Dev nD) (t : Fin cfg0.N) : iblk m c 1 t = V m c main_v1 := by
  show (win0_1.blk t).view.read (Elt F) (V m c main_v1) = _
  exact read_1 t c _
/-- Window 4's block is its array. -/
theorem read_4 (t : Fin cfg0.N) (c : Dev nD) (f : Buf (Elt F) ((c : Thread nD τ).loc main_arg6)) : (win0_4.blk t).view.read (Elt F) f = f :=
  Memref.read_access_unit_zero (Elt F) main_arg6
    (show (fun a => (win0_4.index t) a * main_arg6.ty.shape.size a) = fun _ => 0 from
      funext fun a => by first | (have : win0_4.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 4's block at a point is what the region finds in its array. -/
theorem iblk_4 (c : Dev nD) (t : Fin cfg0.N) : iblk m c 4 t = V m c main_arg6 := by
  show (win0_4.blk t).view.read (Elt F) (V m c main_arg6) = _
  exact read_4 t c _

/-- A point's number is below the number of points. -/
theorem t_lt (t : Fin cfg0.N) : t.val < 24 := lt_of_lt_of_eq t.isLt (show cfg0.N = 24 from N_0)

/-- The blocks of the tiled windows are numbered by the points. -/
theorem index_tiled : ∀ t : Fin cfg0.N, win0_5.index t = ![0, t.val] ∧ win0_6.index t = ![0, t.val] ∧ win0_7.index t = ![0, t.val] ∧ win0_8.index t = ![0, t.val] ∧ win0_9.index t = ![0, t.val] := by
  decide +kernel

/-- Window 5's block at a point. -/
theorem iblk_5 (c : Dev nD) (t : Fin cfg0.N) (r : Fin 1536) (n : Fin 512) : iblk m c 5 t (ix2 r n) = V m c main_arg3 (ix2 r ⟨512 * t.val + n.val, by have := t_lt t; omega⟩) := by
  obtain ⟨h5, h6, h7, h8, h9⟩ := index_tiled t
  blk_ext [iblk, h5]
/-- Window 6's block at a point. -/
theorem iblk_6 (c : Dev nD) (t : Fin cfg0.N) (r : Fin 192) (n : Fin 512) : iblk m c 6 t (ix2 r n) = V m c main_arg4 (ix2 r ⟨512 * t.val + n.val, by have := t_lt t; omega⟩) := by
  obtain ⟨h5, h6, h7, h8, h9⟩ := index_tiled t
  blk_ext [iblk, h6]
/-- Window 7's block at a point. -/
theorem iblk_7 (c : Dev nD) (t : Fin cfg0.N) (r : Fin 32) (n : Fin 512) : iblk m c 7 t (ix2 r n) = V m c main_arg7 (ix2 r ⟨512 * t.val + n.val, by have := t_lt t; omega⟩) := by
  obtain ⟨h5, h6, h7, h8, h9⟩ := index_tiled t
  blk_ext [iblk, h7]
/-- Window 8's block at a point. -/
theorem iblk_8 (c : Dev nD) (t : Fin cfg0.N) (n : Fin 512) : iblk m c 8 t (ix2 0 n) = V m c main_v4 (ix2 0 ⟨512 * t.val + n.val, by have := t_lt t; omega⟩) := by
  obtain ⟨h5, h6, h7, h8, h9⟩ := index_tiled t
  blk_ext [iblk, h8]
end

variable (m : (ℓ : Loc nD τ sig) → Buf (Elt Ideal) ℓ)

/-- The first result, of the arrays the region finds. -/
def yArr (c : Dev nD) (i : Fin 256) (n : Fin 12288) : EReal :=
  Cert.Spec.y (V m c main_v2) (V m c main_v3) ((V m c main_v0) (ix1 0)) ((V m c main_v1) (ix1 0)) (V m c main_arg6) i
    (fun r => (V m c main_arg3) (ix2 r n)) (fun g => (V m c main_arg4) (ix2 g n)) (fun r => (V m c main_arg7) (ix2 r n)) ((V m c main_v4) (ix2 0 n))

/-- What the first point leaves of the dequantised activations. -/
theorem first_xq (c : Dev nD) (y : Fin 256) (d : Fin 3072) : (first m c).2.2.2.1 (ix2 y d) = Cert.Spec.xq (V m c main_v2) (V m c main_v3) ((V m c main_v0) (ix1 0)) y d := by
  unfold first
  dsimp only
  refine (sout0_A_0_apply _ _ _ _ _ _ _ _ _ _ _ _ _ _ _ _ _ _ _ _ _ _ _ _ _ _ _ _ _ _ _ _ _ _ _ _ _ _ _ _ _ _ _ _ _ _ _ _ _ _ y d).trans ?_
  rw [iblk_0, iblk_2, iblk_3]

/-- What the first point leaves of the low-rank factor. -/
theorem first_low (c : Dev nD) (y : Fin 256) (r : Fin 32) : (first m c).2.2.2.2 (ix2 y r) = Cert.Spec.low (V m c main_v2) (V m c main_v3) (V m c main_arg6) y r := by
  unfold first
  dsimp only
  refine (sout0_A_1_apply _ _ _ _ _ _ _ _ _ _ _ _ _ _ _ _ _ _ _ _ _ _ _ _ _ _ _ _ _ _ _ _ _ _ _ _ _ _ _ _ _ _ _ _ _ _ _ _ _ _ y r).trans ?_
  rw [iblk_2, iblk_3, iblk_4]

/-- The mathematics of a point's block is that of its columns of the arrays. -/
theorem block_eq (c : Dev nD) (t : Fin cfg0.N) (y : Fin 256) (n : Fin 512) :
    Cert.Spec.y (iblk m c 2 t) (iblk m c 3 t) (iblk m c 0 t (ix1 0)) (iblk m c 1 t (ix1 0)) (iblk m c 4 t) y (fun r => iblk m c 5 t (ix2 r n)) (fun g => iblk m c 6 t (ix2 g n)) (fun r => iblk m c 7 t (ix2 r n)) (iblk m c 8 t (ix2 0 n))
      = yArr m c y ⟨512 * t.val + n.val, by have := t_lt t; omega⟩ := by
  unfold yArr
  rw [iblk_0, iblk_1, iblk_2, iblk_3, iblk_4, iblk_8]
  simp only [iblk_5, iblk_6, iblk_7]

/-- What a point leaves of the first result. -/
theorem outs_y (c : Dev nD) (t : Fin cfg0.N) (y : Fin 256) (n : Fin 512) :
    (outsAt0 m c t).1 (ix2 y n) = yArr m c y ⟨512 * t.val + n.val, by have := t_lt t; omega⟩ := by
  by_cases h : cond0_0 (grid0.coords t)
  · rw [outsAt0_A m c t h, first_eq m c t h]
    dsimp only
    refine (out0_A_9_apply _ _ _ _ _ _ _ _ _ _ _ _ _ _ _ _ _ _ _ _ _ _ _ _ _ _ _ _ _ _ _ _ _ _ _ _ _ _ _ _ _ _ _ _ _ _ _ _ _ _ y n).trans (block_eq m c t y n)
  · rw [outsAt0_B m c t h]
    dsimp only
    refine (out0_B_9_apply _ _ _ _ _ _ _ _ _ _ _ _ _ _ _ _ _ _ _ _ _ _ _ _ _ _ _ _ _ _ _ _ _ _ _ _ _ _ _ _ _ _ _ _ _ _ _ _ _ _ _ _ _ _ (fun y d => ?_) (fun y r => ?_) y n).trans (block_eq m c t y n)
    · rw [iblk_0, iblk_2, iblk_3]
      exact first_xq m c y d
    · rw [iblk_2, iblk_3, iblk_4]
      exact first_low m c y r

/-- The array of the first result after the run. -/
theorem arr9 (c : Dev nD) : (dats m 0 c).arrAt 9 cfg0.N = fun j : S256x12288.Idx => yArr m c (j 0) (j 1) := by
  refine (dats m 0 c).arrAt_eq_of_covers 9 _ (by decide +kernel) fun t hf y => ?_
  obtain ⟨h5, h6, h7, h8, h9⟩ := index_tiled t
  rw [after0_9]
  obtain ⟨i, n, rfl⟩ : ∃ (i : Fin 256) (n : Fin 512), y = ix2 i n := ⟨y 0, y 1, by funext a; fin_cases a <;> rfl⟩
  refine (outs_y m c t i n).trans ?_
  have e0 : i = ((cfg0.win 9).blk t).view.emb (ix2 i n) 0 := Fin.ext (by blk_simp [h9])
  have e1 : (⟨512 * t.val + n.val, by have := t_lt t; omega⟩ : Fin 12288) = ((cfg0.win 9).blk t).view.emb (ix2 i n) 1 := Fin.ext (by blk_simp [h9]; show 512 * t.val + n.val = _; omega)
  exact congrArg₂ (yArr m c) e0 e1

end Cert.KernelIdeal.Run

end
-- ==== Proof.Run.RefY.lean ====
/- The first result of the reference, element by element. -/
module

public import proofs.«01_k».proof.Proof.Run.RefByte
public import proofs.«01_k».proof.Proof.Run.YSpec
@[expose] public section
set_option maxRecDepth 16384
noncomputable section
namespace Cert.ReferenceIdeal.Run
open Cert.ReferenceIdeal Cert.ReferenceIdeal.Gen
open Idealize.ShloMosaic Idealize.ShloMosaic.TcCoe Idealize.ShloMosaic.Tactic
open Idealize.ShloMosaic.Pipeline Idealize.SL.Sem
open Cert.Code

/-- The dequantised activations, of the packed codes and the scales. -/
def xqOf {F : FTy → Type} [FloatOps F] (p a b : IVec S256x1536 8) (s : FVec F S256x192 .fp8e4m3) (q : IVec S256x1536 8) : FVec F S256x3072 .bf16 :=
  k0_pay25 (k0_pay15 s) (k0_pay19 (k0_pay15 s) (k0_pay16 p a b) (k0_pay17 (F := F) p a b) k0_pay18) (k0_pay20 q) (k0_pay23 (F := F) q) (k0_pay24 (F := F) q) 2#32

/-- The reference's value of a low code, times its scale. -/
theorem pay19_apply (p a b : IVec S256x1536 8) (s : FVec Ideal S256x192 .fp8e4m3) (i : Fin 256) (r : Fin 1536) :
    @Eq EReal (k0_pay19 (F := Ideal) (k0_pay15 s) (k0_pay16 p a b) (k0_pay17 (F := Ideal) p a b) k0_pay18 (ix2 i r)) (nval (k0_pay14 p a b (ix2 i r)) 0 * s (ix2 i ⟨r.val / 8, by omega⟩)) := by
  unfold nval rval mval bit
  rw [← low8]
  unfold k0_pay17 k0_pay16
  generalize k0_pay14 p a b = f
  pointwise [k0_pay19, k0_pay15, k0_pay18]

/-- The reference's dequantised activations at a low code. -/
theorem pay25_low (v : FVec Ideal S256x1536 .bf16) (q : IVec S256x1536 8) (s : FVec Ideal S256x192 .fp8e4m3) (i : Fin 256) (r : Fin 1536) :
    @Eq EReal (k0_pay25 (F := Ideal) (k0_pay15 s) v (k0_pay20 q) (k0_pay23 (F := Ideal) q) (k0_pay24 (F := Ideal) q) 2#32 (ix2 i ⟨2 * r.val, by omega⟩)) (v (ix2 i r)) := by
  generalize k0_pay23 (F := Ideal) q = f
  generalize k0_pay24 (F := Ideal) q = g
  generalize k0_pay20 q = h
  generalize k0_pay15 s = e
  pointwise [k0_pay25]
  exact dif_pos (by omega)

/-- The reference's dequantised activations at a high code. -/
theorem pay25_high (v : FVec Ideal S256x1536 .bf16) (q : IVec S256x1536 8) (s : FVec Ideal S256x192 .fp8e4m3) (i : Fin 256) (r : Fin 1536) :
    @Eq EReal (k0_pay25 (F := Ideal) (k0_pay15 s) v (k0_pay20 q) (k0_pay23 (F := Ideal) q) (k0_pay24 (F := Ideal) q) 2#32 (ix2 i ⟨2 * r.val + 1, by omega⟩)) (nval (q (ix2 i r)) 1 * s (ix2 i ⟨r.val / 8, by omega⟩)) := by
  unfold nval rval mval bit
  rw [← high32]
  unfold k0_pay23 k0_pay24 k0_pay22 k0_pay21
  pointwise [k0_pay25, k0_pay20, k0_pay15]
  exact dif_neg (by omega)

/-- The reference's dequantised activations at an index. -/
theorem xqOf_apply (p a b : IVec S256x1536 8) (s : FVec Ideal S256x192 .fp8e4m3) (i : Fin 256) (d : Fin 3072) :
    @Eq EReal (xqOf (F := Ideal) p a b s (k0_pay14 p a b) (ix2 i d)) (nval (k0_pay14 p a b (ix2 i ⟨d.val / 2, by omega⟩)) (d.val % 2) * s (ix2 i ⟨d.val / 16, by omega⟩)) := by
  have hg : (⟨d.val / 2 / 8, by omega⟩ : Fin 192) = ⟨d.val / 16, by omega⟩ := Fin.ext (by show d.val / 2 / 8 = d.val / 16; omega)
  unfold xqOf
  rcases Nat.mod_two_eq_zero_or_one d.val with h | h
  · have e := (pay25_low (k0_pay19 (F := Ideal) (k0_pay15 s) (k0_pay16 p a b) (k0_pay17 (F := Ideal) p a b) k0_pay18) (k0_pay14 p a b) s i ⟨d.val / 2, by omega⟩).trans (pay19_apply p a b s i ⟨d.val / 2, by omega⟩)
    have hd : (⟨2 * (d.val / 2), by omega⟩ : Fin 3072) = d := Fin.ext (by show 2 * (d.val / 2) = d.val; omega)
    dsimp only at e
    rw [hd, hg] at e
    rw [h]
    exact e
  · have e := pay25_high (k0_pay19 (F := Ideal) (k0_pay15 s) (k0_pay16 p a b) (k0_pay17 (F := Ideal) p a b) k0_pay18) (k0_pay14 p a b) s i ⟨d.val / 2, by omega⟩
    have hd : (⟨2 * (d.val / 2) + 1, by omega⟩ : Fin 3072) = d := Fin.ext (by show 2 * (d.val / 2) + 1 = d.val; omega)
    dsimp only at e
    rw [hd, hg] at e
    rw [h]
    exact e

/-- The reference's low codes of the weights, times their scales. -/
theorem pay32_apply (w : Vec Ideal S1536x12288 .i8) (s : Vec Ideal S192x12288 .fp8e4m3) (r : Fin 1536) (n : Fin 12288) :
    @Eq EReal (k0_pay32 (F := Ideal) (k0_pay26 s) (k0_pay27 (F := Ideal) w) (k0_pay28 (F := Ideal) w) (k0_pay29 w) (k0_pay30 w) (k0_pay31 w) (ix2 r n)) (nval (w (ix2 r n)) 0 * s (ix2 ⟨r.val / 8, by omega⟩ n)) := by
  unfold nval rval mval bit
  rw [← low8]
  unfold k0_pay29 k0_pay30 k0_pay31 k0_pay28
  pointwise [k0_pay32, k0_pay26, k0_pay27]

/-- The reference's dequantised weights, but for the product. -/
def wMat {F : FTy → Type} [FloatOps F] (v192 : FVec F S192x1x12288 .bf16) (v241 : FVec F S1536x12288 .bf16) (v244 : IVec S1536x12288 32) (v250 : IVec S1536x12288 1) (v251 : FVec F S1536x12288 .bf16) (v252 : FVec F S1536x12288 .bf16) : FVec F S3072x12288 .bf16 :=
  have v253 : FVec F S1536x12288 .bf16 := select v250 v251 v252
  have cst_97 : F .bf16 := Scalar.ofBits .bf16 0x3FC0#16
  have cst_98 : F .bf16 := Scalar.ofBits .bf16 0x3F80#16
  have v254 : FVec F S1536x12288 .bf16 := broadcast S1536x12288 cst_97
  have v255 : FVec F S1536x12288 .bf16 := broadcast S1536x12288 cst_98
  have v256 : FVec F S1536x12288 .bf16 := select v250 v254 v255
  have cst_99 : F .bf16 := Scalar.ofBits .bf16 0x4040#16
  have cst_100 : F .bf16 := Scalar.ofBits .bf16 0x4000#16
  have v257 : FVec F S1536x12288 .bf16 := broadcast S1536x12288 cst_99
  have v258 : FVec F S1536x12288 .bf16 := broadcast S1536x12288 cst_100
  have v259 : FVec F S1536x12288 .bf16 := select v250 v257 v258
  have cst_101 : F .bf16 := Scalar.ofBits .bf16 0x40C0#16
  have cst_102 : F .bf16 := Scalar.ofBits .bf16 0x4080#16
  have v260 : FVec F S1536x12288 .bf16 := broadcast S1536x12288 cst_101
  have v261 : FVec F S1536x12288 .bf16 := broadcast S1536x12288 cst_102
  have v262 : FVec F S1536x12288 .bf16 := select v250 v260 v261
  have v263 : IVec S1536x12288 32 := broadcast S1536x12288 1#32
  have v264 : IVec S1536x12288 32 := shrsi v244 v263
  have v265 : IVec S1536x12288 32 := broadcast S1536x12288 1#32
  have v266 : IVec S1536x12288 32 := andi v264 v265
  have v267 : IVec S1536x12288 32 := broadcast S1536x12288 1#32
  have v268 : IVec S1536x12288 1 := cmpi .eq v266 v267
  have v269 : FVec F S1536x12288 .bf16 := select v268 v256 v253
  have v270 : FVec F S1536x12288 .bf16 := select v268 v262 v259
  have v271 : IVec S1536x12288 32 := broadcast S1536x12288 2#32
  have v272 : IVec S1536x12288 32 := shrsi v244 v271
  have v273 : IVec S1536x12288 32 := broadcast S1536x12288 1#32
  have v274 : IVec S1536x12288 32 := andi v272 v273
  have v275 : IVec S1536x12288 32 := broadcast S1536x12288 1#32
  have v276 : IVec S1536x12288 1 := cmpi .eq v274 v275
  have v277 : FVec F S1536x12288 .bf16 := select v276 v270 v269
  have v278 : IVec S1536x12288 32 := broadcast S1536x12288 3#32
  have v279 : IVec S1536x12288 32 := shrsi v244 v278
  have v280 : IVec S1536x12288 32 := broadcast S1536x12288 1#32
  have v281 : IVec S1536x12288 32 := andi v279 v280
  have v282 : IVec S1536x12288 32 := broadcast S1536x12288 1#32
  have v283 : IVec S1536x12288 1 := cmpi .eq v281 v282
  have cst_112 : F .bf16 := Scalar.ofBits .bf16 0x0000#16
  have v284 : FVec F S1536x12288 .bf16 := broadcast S1536x12288 cst_112
  have v285 : FVec F S1536x12288 .bf16 := subf v284 v277
  have v286 : FVec F S1536x12288 .bf16 := select v283 v285 v277
  have v287 : FVec F S192x8x12288 .bf16 := shapeCast S192x8x12288 v286 shapeCasts_S1536x12288_S192x8x12288
  have v288 : FVec F S192x8x12288 .bf16 := broadcastTo S192x8x12288 v192 broadcasts_S192x1x12288_S192x8x12288
  have v289 : FVec F S192x8x12288 .bf16 := mulf v287 v288
  have v290 : FVec F S1536x12288 .bf16 := shapeCast S1536x12288 v289 shapeCasts_S192x8x12288_S1536x12288
  have v291 : FVec F S1536x1x12288 .bf16 := shapeCast S1536x1x12288 v241 shapeCasts_S1536x12288_S1536x1x12288
  have v292 : FVec F S1536x1x12288 .bf16 := shapeCast S1536x1x12288 v290 shapeCasts_S1536x12288_S1536x1x12288
  have v293 : FVec F S1536x2x12288 .bf16 := concatenate S1536x2x12288 1 [⟨S1536x1x12288, v291⟩, ⟨S1536x1x12288, v292⟩] concatenates_S1536x1x12288_S1536x1x12288_S1536x2x12288_d1
  have v294 : FVec F S3072x12288 .bf16 := shapeCast S3072x12288 v293 shapeCasts_S1536x2x12288_S3072x12288
  v294

/-- The reference's product is that of the dequantised activations and weights. -/
theorem pay37_eq {F : FTy → Type} [FloatOps F] (v190 : FVec F S256x3072 .bf16) (v192 : FVec F S192x1x12288 .bf16) (v241 : FVec F S1536x12288 .bf16) (v244 : IVec S1536x12288 32) (v250 : IVec S1536x12288 1) (v251 : FVec F S1536x12288 .bf16) (v252 : FVec F S1536x12288 .bf16) :
    k0_pay37 v190 v192 v241 v244 v250 v251 v252 = matmul dot_S256x3072_S3072x12288_S256x12288_1_0_0_1_n_n none v190 (wMat v192 v241 v244 v250 v251 v252) (constant S256x12288 .f32 0x00000000#32) := rfl

/-- The reference's dequantised weights at a low code. -/
theorem wMat_low (w : Vec Ideal S1536x12288 .i8) (s : Vec Ideal S192x12288 .fp8e4m3) (v : FVec Ideal S1536x12288 .bf16) (r : Fin 1536) (n : Fin 12288) :
    @Eq EReal (wMat (F := Ideal) (k0_pay26 s) v (k0_pay33 (F := Ideal) w) (k0_pay34 (F := Ideal) w) k0_pay35 k0_pay36 (ix2 ⟨2 * r.val, by omega⟩ n)) (v (ix2 r n)) := by
  generalize k0_pay33 (F := Ideal) w = f
  generalize k0_pay34 (F := Ideal) w = g
  generalize k0_pay26 s = h
  pointwise [wMat]
  exact dif_pos (by omega)

/-- The reference's dequantised weights at a high code. -/
theorem wMat_high (w : Vec Ideal S1536x12288 .i8) (s : Vec Ideal S192x12288 .fp8e4m3) (v : FVec Ideal S1536x12288 .bf16) (r : Fin 1536) (n : Fin 12288) :
    @Eq EReal (wMat (F := Ideal) (k0_pay26 s) v (k0_pay33 (F := Ideal) w) (k0_pay34 (F := Ideal) w) k0_pay35 k0_pay36 (ix2 ⟨2 * r.val + 1, by omega⟩ n)) (nval (w (ix2 r n)) 1 * s (ix2 ⟨r.val / 8, by omega⟩ n)) := by
  unfold nval rval mval bit
  rw [← high32]
  unfold k0_pay34
  pointwise [wMat, k0_pay33, k0_pay26, k0_pay35, k0_pay36]
  exact dif_neg (by omega)

/-- The reference's dequantised weights, of the packed codes and the scales. -/
def wqOf {F : FTy → Type} [FloatOps F] (w : Vec F S1536x12288 .i8) (s : Vec F S192x12288 .fp8e4m3) : FVec F S3072x12288 .bf16 :=
  wMat (k0_pay26 s) (k0_pay32 (k0_pay26 s) (k0_pay27 w) (k0_pay28 w) (k0_pay29 w) (k0_pay30 w) (k0_pay31 w)) (k0_pay33 w) (k0_pay34 w) (k0_pay35 (F := F)) (k0_pay36 (F := F))

/-- The reference's dequantised weights at an index. -/
theorem wqOf_apply (w : Vec Ideal S1536x12288 .i8) (s : Vec Ideal S192x12288 .fp8e4m3) (d : Fin 3072) (n : Fin 12288) :
    @Eq EReal (wqOf (F := Ideal) w s (ix2 d n)) (Cert.Spec.wq (fun r => w (ix2 r n)) (fun g => s (ix2 g n)) d) := by
  have hg : (⟨d.val / 2 / 8, by omega⟩ : Fin 192) = ⟨d.val / 16, by omega⟩ := Fin.ext (by show d.val / 2 / 8 = d.val / 16; omega)
  unfold wqOf Cert.Spec.wq
  rcases Nat.mod_two_eq_zero_or_one d.val with h | h
  · have e := (wMat_low w s (k0_pay32 (F := Ideal) (k0_pay26 s) (k0_pay27 (F := Ideal) w) (k0_pay28 (F := Ideal) w) (k0_pay29 w) (k0_pay30 w) (k0_pay31 w)) ⟨d.val / 2, by omega⟩ n).trans (pay32_apply w s ⟨d.val / 2, by omega⟩ n)
    have hd : (⟨2 * (d.val / 2), by omega⟩ : Fin 3072) = d := Fin.ext (by show 2 * (d.val / 2) = d.val; omega)
    dsimp only at e
    rw [hd, hg] at e
    rw [h]
    exact e
  · have e := wMat_high w s (k0_pay32 (F := Ideal) (k0_pay26 s) (k0_pay27 (F := Ideal) w) (k0_pay28 (F := Ideal) w) (k0_pay29 w) (k0_pay30 w) (k0_pay31 w)) ⟨d.val / 2, by omega⟩ n
    have hd : (⟨2 * (d.val / 2) + 1, by omega⟩ : Fin 3072) = d := Fin.ext (by show 2 * (d.val / 2) + 1 = d.val; omega)
    dsimp only at e
    rw [hd, hg] at e
    rw [h]
    exact e

/-- The reference's first result, of what it loads. -/
def yRef {F : FTy → Type} [FloatOps F] (x0 : Vec F S256x3072 .bf16) (x1 : Vec F S1x3072 .f32) (x2 : Vec F S1x1 .f32) (x3 : Vec F S1536x12288 .i8) (x4 : Vec F S192x12288 .fp8e4m3) (x5 : Vec F S1x1 .f32) (x6 : Vec F S3072x32 .bf16) (x7 : Vec F S32x12288 .bf16) (x8 : Vec F S1x12288 .f32) : FVec F S256x12288 .bf16 :=
  k0_pay1 (k0_pay2 x2) (k0_pay3 x5) (k0_pay4 x0 x1)
    (matmul dot_S256x3072_S3072x12288_S256x12288_1_0_0_1_n_n none
      (xqOf (k0_pay11 (k0_pay7 x0 x1 x2) (k0_pay8 x0 x1 x2) k0_pay9) (k0_pay12 (k0_pay7 x0 x1 x2) (k0_pay8 x0 x1 x2) k0_pay9) k0_pay13 (k0_pay6 x0 x1 x2) (packOf x0 x1 x2))
      (wqOf x3 x4) (constant S256x12288 .f32 0x00000000#32)) x6 x7 x8

/-- The reference's last sum at an index. -/
theorem pay1_apply (x0 : Vec Ideal S256x3072 .bf16) (x1 : Vec Ideal S1x3072 .f32) (x2 x5 : Vec Ideal S1x1 .f32) (a : FVec Ideal S256x3072 .bf16) (b : FVec Ideal S3072x12288 .bf16)
    (x6 : Vec Ideal S3072x32 .bf16) (x7 : Vec Ideal S32x12288 .bf16) (x8 : Vec Ideal S1x12288 .f32) (i : Fin 256) (n : Fin 12288) :
    @Eq EReal (k0_pay1 (F := Ideal) (k0_pay2 x2) (k0_pay3 x5) (k0_pay4 x0 x1) (matmul dot_S256x3072_S3072x12288_S256x12288_1_0_0_1_n_n none a b (constant S256x12288 .f32 0x00000000#32)) x6 x7 x8 (ix2 i n))
      (((∑ d : Fin 3072, a (ix2 i d) * b (ix2 d n)) * (x2 (ix2 0 0) * x5 (ix2 0 0)) + ∑ r : Fin 32, (∑ d : Fin 3072, x0 (ix2 i d) * x1 (ix2 0 d) * x6 (ix2 d r)) * x7 (ix2 r n)) + x8 (ix2 0 n)) := by
  pointwise [k0_pay1, k0_pay2, k0_pay3, k0_pay4]

/-- The reference's first result, element by element. -/
theorem yRef_apply (x0 : Vec Ideal S256x3072 .bf16) (x1 : Vec Ideal S1x3072 .f32) (x2 : Vec Ideal S1x1 .f32) (x3 : Vec Ideal S1536x12288 .i8) (x4 : Vec Ideal S192x12288 .fp8e4m3) (x5 : Vec Ideal S1x1 .f32) (x6 : Vec Ideal S3072x32 .bf16) (x7 : Vec Ideal S32x12288 .bf16) (x8 : Vec Ideal S1x12288 .f32) (i : Fin 256) (n : Fin 12288) :
    @Eq EReal (yRef (F := Ideal) x0 x1 x2 x3 x4 x5 x6 x7 x8 (ix2 i n)) (Cert.Spec.y x0 x1 (x2 (ix2 0 0)) (x5 (ix2 0 0)) x6 i (fun r => x3 (ix2 r n)) (fun g => x4 (ix2 g n)) (fun r => x7 (ix2 r n)) (x8 (ix2 0 n))) := by
  unfold yRef
  refine (pay1_apply x0 x1 x2 x5 _ _ x6 x7 x8 i n).trans ?_
  unfold Cert.Spec.y Cert.Spec.low Cert.Spec.xs
  refine congrArg (fun s : EReal => s * (x2 (ix2 0 0) * x5 (ix2 0 0)) + (∑ r : Fin 32, (∑ d : Fin 3072, x0 (ix2 i d) * x1 (ix2 0 d) * x6 (ix2 d r)) * x7 (ix2 r n)) + x8 (ix2 0 n)) ?_
  refine Finset.sum_congr rfl fun d _ => ?_
  refine congrArg₂ (fun a b : EReal => a * b) ?_ (wqOf_apply x3 x4 d n)
  refine (xqOf_apply _ _ _ _ i d).trans ?_
  unfold Cert.Spec.xq
  refine congrArg₂ (fun a b : EReal => a * b) ?_ (pay6_apply x0 x1 x2 i _)
  exact congrArg (fun b => nval b (d.val % 2)) (packOf_apply x0 x1 x2 i _)

variable {F : FTy → Type} [FloatOps F] (m : (ℓ : Loc nD τ sig) → Buf (Elt F) ℓ)

/-- The reference's one store of the first result. -/
theorem out9_eq (x0 : Vec F S256x3072 .bf16) (x1 : Vec F S1x3072 .f32) (x2 : Vec F S1x1 .f32) (x3 : Vec F S1536x12288 .i8) (x4 : Vec F S192x12288 .fp8e4m3) (x5 : Vec F S1x1 .f32) (x6 : Vec F S3072x32 .bf16) (x7 : Vec F S32x12288 .bf16) (x8 : Vec F S1x12288 .f32) :
    out0_9 x0 x1 x2 x3 x4 x5 x6 x7 x8 = yRef x0 x1 x2 x3 x4 x5 x6 x7 x8 := by
  unfold out0_9 k0_pay47 k0_pay46 k0_pay45 k0_pay44 k0_pay43 k0_pay42 k0_pay41 k0_pay40 k0_pay39 k0_pay38 r0_0 r0_1 r0_2 r0_3 r0_4 r0_5 r0_6 r0_7 r0_8
  rw [View.canon_unit_zero zero2]
  rw [View.ld_unit_zero zero2, View.ld_unit_zero zero2, View.ld_unit_zero zero2, View.ld_unit_zero zero2, View.ld_unit_zero zero2, View.ld_unit_zero zero2, View.ld_unit_zero zero2, View.ld_unit_zero zero2, View.ld_unit_zero zero2]
  rw [pay37_eq]
  unfold yRef xqOf wqOf packOf
  rfl

end Cert.ReferenceIdeal.Run

end
-- ==== Proof.Run.RefArr.lean ====
/- What the reference leaves of its first result. -/
module

public import proofs.«01_k».proof.Proof.Run.RefY

@[expose] public section

set_option maxRecDepth 16384
noncomputable section

namespace Cert.ReferenceIdeal.Run
open Cert.ReferenceIdeal Cert.ReferenceIdeal.Gen
open Idealize.ShloMosaic Idealize.ShloMosaic.TcCoe Idealize.ShloMosaic.Tactic
open Idealize.ShloMosaic.Pipeline
variable {F : FTy → Type} [FloatOps F] (m : (ℓ : Loc nD τ sig) → Buf (Elt F) ℓ)

/-- What the region finds in `main_v3`. -/
theorem V_main_v3 (c : Dev nD) : V m c main_v3 = shapeCast S1x1 (m ((c : Thread nD τ).loc main_arg5)) shapeCasts_S_S1x1 := by
  show StableHlo.after hostOps0 _ (Proc.devRef .tc main_v3) = _
  after_results
  rfl
/-- What the region finds in `main_v4`. -/
theorem V_main_v4 (c : Dev nD) : V m c main_v4 = shapeCast S1x12288 (m ((c : Thread nD τ).loc main_arg8)) shapeCasts_S12288_S1x12288 := by
  show StableHlo.after hostOps0 _ (Proc.devRef .tc main_v4) = _
  after_results
  rfl
/-- What the region finds in `main_arg3`. -/
theorem V_main_arg3 (c : Dev nD) : V m c main_arg3 = m ((c : Thread nD τ).loc main_arg3) := by
  show StableHlo.after hostOps0 _ (Proc.devRef .tc main_arg3) = _
  after_results
/-- What the region finds in `main_arg4`. -/
theorem V_main_arg4 (c : Dev nD) : V m c main_arg4 = m ((c : Thread nD τ).loc main_arg4) := by
  show StableHlo.after hostOps0 _ (Proc.devRef .tc main_arg4) = _
  after_results
/-- What the region finds in `main_arg6`. -/
theorem V_main_arg6 (c : Dev nD) : V m c main_arg6 = m ((c : Thread nD τ).loc main_arg6) := by
  show StableHlo.after hostOps0 _ (Proc.devRef .tc main_arg6) = _
  after_results
/-- What the region finds in `main_arg7`. -/
theorem V_main_arg7 (c : Dev nD) : V m c main_arg7 = m ((c : Thread nD τ).loc main_arg7) := by
  show StableHlo.after hostOps0 _ (Proc.devRef .tc main_arg7) = _
  after_results
/-- Window 3's block is its array. -/
theorem read_3 (t : Fin cfg0.N) (c : Dev nD) (f : Buf (Elt F) ((c : Thread nD τ).loc main_arg3)) : (win0_3.blk t).view.read (Elt F) f = f :=
  Memref.read_access_unit_zero (Elt F) main_arg3
    (show (fun a => (win0_3.index t) a * main_arg3.ty.shape.size a) = fun _ => 0 from
      funext fun a => by first | (have : win0_3.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 3's block at a point is what the region finds in its array. -/
theorem iblk_3 (c : Dev nD) (t : Fin cfg0.N) : iblk m c 3 t = V m c main_arg3 := by
  show (win0_3.blk t).view.read (Elt F) (V m c main_arg3) = _
  exact read_3 t c _
/-- Window 4's block is its array. -/
theorem read_4 (t : Fin cfg0.N) (c : Dev nD) (f : Buf (Elt F) ((c : Thread nD τ).loc main_arg4)) : (win0_4.blk t).view.read (Elt F) f = f :=
  Memref.read_access_unit_zero (Elt F) main_arg4
    (show (fun a => (win0_4.index t) a * main_arg4.ty.shape.size a) = fun _ => 0 from
      funext fun a => by first | (have : win0_4.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 4's block at a point is what the region finds in its array. -/
theorem iblk_4 (c : Dev nD) (t : Fin cfg0.N) : iblk m c 4 t = V m c main_arg4 := by
  show (win0_4.blk t).view.read (Elt F) (V m c main_arg4) = _
  exact read_4 t c _
/-- Window 5's block is its array. -/
theorem read_5 (t : Fin cfg0.N) (c : Dev nD) (f : Buf (Elt F) ((c : Thread nD τ).loc main_v3)) : (win0_5.blk t).view.read (Elt F) f = f :=
  Memref.read_access_unit_zero (Elt F) main_v3
    (show (fun a => (win0_5.index t) a * main_v3.ty.shape.size a) = fun _ => 0 from
      funext fun a => by first | (have : win0_5.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 5's block at a point is what the region finds in its array. -/
theorem iblk_5 (c : Dev nD) (t : Fin cfg0.N) : iblk m c 5 t = V m c main_v3 := by
  show (win0_5.blk t).view.read (Elt F) (V m c main_v3) = _
  exact read_5 t c _
/-- Window 6's block is its array. -/
theorem read_6 (t : Fin cfg0.N) (c : Dev nD) (f : Buf (Elt F) ((c : Thread nD τ).loc main_arg6)) : (win0_6.blk t).view.read (Elt F) f = f :=
  Memref.read_access_unit_zero (Elt F) main_arg6
    (show (fun a => (win0_6.index t) a * main_arg6.ty.shape.size a) = fun _ => 0 from
      funext fun a => by first | (have : win0_6.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 6's block at a point is what the region finds in its array. -/
theorem iblk_6 (c : Dev nD) (t : Fin cfg0.N) : iblk m c 6 t = V m c main_arg6 := by
  show (win0_6.blk t).view.read (Elt F) (V m c main_arg6) = _
  exact read_6 t c _
/-- Window 7's block is its array. -/
theorem read_7 (t : Fin cfg0.N) (c : Dev nD) (f : Buf (Elt F) ((c : Thread nD τ).loc main_arg7)) : (win0_7.blk t).view.read (Elt F) f = f :=
  Memref.read_access_unit_zero (Elt F) main_arg7
    (show (fun a => (win0_7.index t) a * main_arg7.ty.shape.size a) = fun _ => 0 from
      funext fun a => by first | (have : win0_7.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 7's block at a point is what the region finds in its array. -/
theorem iblk_7 (c : Dev nD) (t : Fin cfg0.N) : iblk m c 7 t = V m c main_arg7 := by
  show (win0_7.blk t).view.read (Elt F) (V m c main_arg7) = _
  exact read_7 t c _
/-- Window 8's block is its array. -/
theorem read_8 (t : Fin cfg0.N) (c : Dev nD) (f : Buf (Elt F) ((c : Thread nD τ).loc main_v4)) : (win0_8.blk t).view.read (Elt F) f = f :=
  Memref.read_access_unit_zero (Elt F) main_v4
    (show (fun a => (win0_8.index t) a * main_v4.ty.shape.size a) = fun _ => 0 from
      funext fun a => by first | (have : win0_8.index t a = 0 := rfl; exact (congrArg (· * _) this).trans (Nat.zero_mul _)) | (fin_cases a <;> exact Nat.zero_mul _)) (fun a => by fin_cases a <;> exact le_of_eq (by show 0 * _ + _ = _; rw [Nat.zero_mul, Nat.zero_add])) f
/-- Window 8's block at a point is what the region finds in its array. -/
theorem iblk_8 (c : Dev nD) (t : Fin cfg0.N) : iblk m c 8 t = V m c main_v4 := by
  show (win0_8.blk t).view.read (Elt F) (V m c main_v4) = _
  exact read_8 t c _

/-- The reference's array of the first result ends at its one point's. -/
theorem arr9 (c : Dev nD) : (dats m 0 c).arrAt 9 cfg0.N = yRef (V m c main_v0) (V m c main_v1) (V m c main_v2) (V m c main_arg3) (V m c main_arg4) (V m c main_v3) (V m c main_arg6) (V m c main_arg7) (V m c main_v4) :=
  Dat.arrAt_eq_of_after_last _ 9 ⟨0, by decide⟩ (by decide +kernel) _ fun j => by
    rw [after0_9, out9_eq, iblk_0, iblk_1, iblk_2, iblk_3, iblk_4, iblk_5, iblk_6, iblk_7, iblk_8]
    blk_simp

end Cert.ReferenceIdeal.Run

end
-- ==== Proof.Run.YCoded.lean ====
/- The two programs leave the same first result. -/
module

public import proofs.«01_k».proof.Proof.Run.YArr
public import proofs.«01_k».proof.Proof.Run.RefArr
@[expose] public section
set_option maxRecDepth 16384
noncomputable section
namespace Cert.KernelIdeal.Run
open Cert.KernelIdeal Cert.KernelIdeal.Gen
open Idealize.ShloMosaic Idealize.ShloMosaic.TcCoe
open Idealize.ShloMosaic.Pipeline Idealize.SL.Sem

/-- After the run the array of the first result holds its mathematics, and those of the packed codes and of the scales what the first point stores. -/
theorem run_all (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c.tc : Thread nD τ).loc main_v5_0) = (fun j : S256x12288.Idx => yArr m c (j 0) (j 1)) ∧ r.2.mem ((c.tc : Thread nD τ).loc main_v5_1) = (first m c).2.1 ∧ r.2.mem ((c.tc : Thread nD τ).loc main_v5_2) = (first m c).2.2.1) :=
  (θ_run defs _ _).mono (fun _ h c => ⟨((h c).1 9).trans (arr9 m c), ((h c).1 10).trans (arr10 m c), ((h c).1 11).trans (arr11 m c)⟩) (run_main m ρ)

end Cert.KernelIdeal.Run

namespace Cert.Scaled
open Idealize.ShloMosaic Idealize.ShloMosaic.TcCoe Idealize.ShloMosaic.Tactic
open Idealize.ShloMosaic.Pipeline Idealize.SL.Sem

/-- On memories that agree at the arguments, the first result the reference leaves is the one the kernel leaves. -/
theorem y_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    (ReferenceIdeal.Gen.dats m' 0 c).arrAt 9 ReferenceIdeal.cfg0.N = (fun j : KernelIdeal.S256x12288.Idx => KernelIdeal.Run.yArr m c (j 0) (j 1)) := by
  rw [ReferenceIdeal.Run.arr9]
  funext y
  obtain ⟨i, n, rfl⟩ : ∃ (i : Fin 256) (n : Fin 12288), y = ix2 i n := ⟨y 0, y 1, by funext a; fin_cases a <;> rfl⟩
  refine (ReferenceIdeal.Run.yRef_apply _ _ _ _ _ _ _ _ _ i n).trans ?_
  show _ = KernelIdeal.Run.yArr m c i n
  unfold KernelIdeal.Run.yArr
  rw [ReferenceIdeal.Run.V_main_v0, ReferenceIdeal.Run.V_main_v1, ReferenceIdeal.Run.V_main_v2, ReferenceIdeal.Run.V_main_v3, ReferenceIdeal.Run.V_main_v4, ReferenceIdeal.Run.V_main_arg3, ReferenceIdeal.Run.V_main_arg4, ReferenceIdeal.Run.V_main_arg6, ReferenceIdeal.Run.V_main_arg7,
    KernelIdeal.Run.V_main_v0, KernelIdeal.Run.V_main_v1, KernelIdeal.Run.V_main_v2, KernelIdeal.Run.V_main_v3, KernelIdeal.Run.V_main_v4, KernelIdeal.Run.V_main_arg3, KernelIdeal.Run.V_main_arg4, KernelIdeal.Run.V_main_arg6, KernelIdeal.Run.V_main_arg7, h0, h1, h2, h3, h4, h5, h6, h7, h8]
  rw [scalar_reshape _ _ _ _ (fun a => a.elim0), scalar_reshape _ _ _ _ (fun a => a.elim0), scalar_reshape _ _ _ _ (fun a => a.elim0), scalar_reshape _ _ _ _ (fun a => a.elim0)]

end Cert.Scaled

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run.Frame
public import Idealize.ShloMosaic.Adequacy
public import Idealize.ShloMosaic.Init
public import proofs.«01_k».proof.Proof.RunKernel.Frame
public import proofs.«01_k».proof.Proof.Run.Coded
public import proofs.«01_k».proof.Proof.Run.YCoded

@[expose] public section

noncomputable section

namespace Cert.Proof

open Idealize.ShloMosaic Idealize.SL.Sem

/-- On equal arguments the kernel and the reference leave equal results. -/
theorem algebraic : Cert.algebraic_KernelIdeal_ReferenceIdeal (hKernelIdeal := Cert.KernelIdeal.Gen.facts) (hReferenceIdeal := Cert.ReferenceIdeal.Gen.facts) := by
  intro m g m' g' _ ha
  refine ⟨fun c => (fun j : Cert.KernelIdeal.S256x12288.Idx => Cert.KernelIdeal.Run.yArr m c (j 0) (j 1)), fun c => (Cert.KernelIdeal.Run.first m c).2.1, fun c => (Cert.KernelIdeal.Run.first m c).2.2.1, ?_, ?_⟩
  · refine (θ_run _ _ _).mono ?_ (θ_run_and (Cert.KernelIdeal.Run.unchanged m g) (Cert.KernelIdeal.Run.run_all m g))
    exact fun r h c => ⟨(h.2 c).1, (h.2 c).2.1, (h.2 c).2.2, h.1 c⟩
  · refine (θ_run _ _ _).mono ?_ (Cert.ReferenceIdeal.Value.run_blocks m' g')
    intro r h c
    obtain ⟨h0, h1, h2, h3, h4, h5, h6, h7, h8⟩ := ha c
    exact ⟨(h c).1.trans (Cert.Scaled.y_eq m m' c h0 h1 h2 h3 h4 h5 h6 h7 h8), (h c).2.1.trans (Cert.Scaled.bytes_eq m m' c h0 h1 h2),
      (h c).2.2.1.trans (Cert.Scaled.scales_eq m m' c h0 h1 h2), (h c).2.2.2⟩

/-- The frames of the two kernels and of the reference, that the idealised kernel is the kernel, and that kernel and reference leave equal results. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
